-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  IdealRules.named_const.Statement Cert.KernelIdeal.κ "scale" .f32 0x3D66D4CA#32 (((Real.log 2)⁻¹ * (5 / 128) : ℝ) : EReal)
  ∧ IdealRules.named_const.Statement Cert.KernelIdeal.κ "mask" .f32 0xF149F2CA#32 ⊥

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v0_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_v0_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0_0) = v0 c
          ∧ r.2.mem ((c.tc : Thread Cert.ReferenceIdeal.nD Cert.ReferenceIdeal.τ).loc Cert.ReferenceIdeal.main_v0_1) = v1 c
          ∧ r.2.mem ((c.tc : Thread Cert.ReferenceIdeal.nD Cert.ReferenceIdeal.τ).loc Cert.ReferenceIdeal.main_v0_2) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S16x1200x256 : Shape := ⟨3, ![16, 1200, 256]⟩
abbrev S16x1200 : Shape := ⟨2, ![16, 1200]⟩
abbrev S16x1344x256 : Shape := ⟨3, ![16, 1344, 256]⟩
abbrev S16x1344 : Shape := ⟨2, ![16, 1344]⟩
abbrev S16x1200x1344 : Shape := ⟨3, ![16, 1200, 1344]⟩
abbrev S1x1200x256 : Shape := ⟨3, ![1, 1200, 256]⟩
abbrev S1x1344x256 : Shape := ⟨3, ![1, 1344, 256]⟩
abbrev S1x1200x1344 : Shape := ⟨3, ![1, 1200, 1344]⟩
abbrev S1200x1408 : Shape := ⟨2, ![1200, 1408]⟩
abbrev S1200x128 : Shape := ⟨2, ![1200, 128]⟩
abbrev S16x1x1200 : Shape := ⟨3, ![16, 1, 1200]⟩
abbrev S16x1x1344 : Shape := ⟨3, ![16, 1, 1344]⟩
abbrev S8x1 : Shape := ⟨2, ![8, 1]⟩
abbrev S8x128 : Shape := ⟨2, ![8, 128]⟩
abbrev S128 : Shape := ⟨1, ![128]⟩
abbrev S1x128 : Shape := ⟨2, ![1, 128]⟩
abbrev S128x128 : Shape := ⟨2, ![128, 128]⟩
abbrev S8x48 : Shape := ⟨2, ![8, 48]⟩
abbrev S48 : Shape := ⟨1, ![48]⟩
abbrev S1x48 : Shape := ⟨2, ![1, 48]⟩
abbrev S1x80 : Shape := ⟨2, ![1, 80]⟩
abbrev S48x128 : Shape := ⟨2, ![48, 128]⟩
abbrev S8x64 : Shape := ⟨2, ![8, 64]⟩
abbrev S64 : Shape := ⟨1, ![64]⟩
abbrev S1x64 : Shape := ⟨2, ![1, 64]⟩
abbrev S1x160x256 : Shape := ⟨3, ![1, 160, 256]⟩
abbrev S160x256 : Shape := ⟨2, ![160, 256]⟩
abbrev S160x128 : Shape := ⟨2, ![160, 128]⟩
abbrev S1x256x256 : Shape := ⟨3, ![1, 256, 256]⟩
abbrev S256x256 : Shape := ⟨2, ![256, 256]⟩
abbrev S1x64x256 : Shape := ⟨3, ![1, 64, 256]⟩
abbrev S64x256 : Shape := ⟨2, ![64, 256]⟩
abbrev S160x64 : Shape := ⟨2, ![160, 64]⟩
abbrev S160 : Shape := ⟨1, ![160]⟩
abbrev S160x1 : Shape := ⟨2, ![160, 1]⟩
abbrev S1x80x256 : Shape := ⟨3, ![1, 80, 256]⟩
abbrev S80x256 : Shape := ⟨2, ![80, 256]⟩
abbrev S80x128 : Shape := ⟨2, ![80, 128]⟩
abbrev S80x64 : Shape := ⟨2, ![80, 64]⟩
abbrev S80 : Shape := ⟨1, ![80]⟩
abbrev S80x1 : Shape := ⟨2, ![80, 1]⟩
abbrev S1x160x128 : Shape := ⟨3, ![1, 160, 128]⟩
abbrev S1x160x64 : Shape := ⟨3, ![1, 160, 64]⟩
abbrev S1x80x128 : Shape := ⟨3, ![1, 80, 128]⟩
abbrev S1x80x64 : Shape := ⟨3, ![1, 80, 64]⟩
abbrev S1x1x128 : Shape := ⟨3, ![1, 1, 128]⟩
abbrev S1x1x64 : Shape := ⟨3, ![1, 1, 64]⟩
abbrev S1x1x48 : Shape := ⟨3, ![1, 1, 48]⟩
abbrev S1x1x1200 : Shape := ⟨3, ![1, 1, 1200]⟩
abbrev S1x1200 : Shape := ⟨2, ![1, 1200]⟩
abbrev S1x1x1344 : Shape := ⟨3, ![1, 1, 1344]⟩
abbrev S1x1344 : Shape := ⟨2, ![1, 1344]⟩

abbrev nBuf : Space → Nat
  | .hbm => 7
  | .vmem => 15
  | .smem => 0
  | _ => 0

abbrev bufTy : (tb : Table) → Fin (tcTables nBuf tb) → BufTy
  | .hbm, ⟨0, _⟩ => ⟨S16x1200x256, .fp8e4m3⟩
  | .hbm, ⟨1, _⟩ => ⟨S16x1200, .f32⟩
  | .hbm, ⟨2, _⟩ => ⟨S16x1344x256, .fp8e4m3⟩
  | .hbm, ⟨3, _⟩ => ⟨S16x1344, .f32⟩
  | .hbm, ⟨4, _⟩ => ⟨S16x1200x1344, .bf16⟩
  | .hbm, ⟨5, _⟩ => ⟨S16x1200, .f32⟩
  | .hbm, ⟨6, _⟩ => ⟨S16x1344, .f32⟩
  | .local _ .vmem, ⟨0, _⟩ => ⟨S16x1200, .f32⟩
  | .local _ .vmem, ⟨1, _⟩ => ⟨S16x1344, .f32⟩
  | .local _ .vmem, ⟨2, _⟩ => ⟨S1x1200x256, .fp8e4m3⟩
  | .local _ .vmem, ⟨3, _⟩ => ⟨S1x1200x256, .fp8e4m3⟩
  | .local _ .vmem, ⟨4, _⟩ => ⟨S1x1344x256, .fp8e4m3⟩
  | .local _ .vmem, ⟨5, _⟩ => ⟨S1x1344x256, .fp8e4m3⟩
  | .local _ .vmem, ⟨6, _⟩ => ⟨S1x1200x1344, .bf16⟩
  | .local _ .vmem, ⟨7, _⟩ => ⟨S1x1200x1344, .bf16⟩
  | .local _ .vmem, ⟨8, _⟩ => ⟨S16x1200, .f32⟩
  | .local _ .vmem, ⟨9, _⟩ => ⟨S16x1344, .f32⟩
  | .local _ .vmem, ⟨10, _⟩ => ⟨S1200x1408, .f32⟩
  | .local _ .vmem, ⟨11, _⟩ => ⟨S1200x128, .f32⟩
  | .local _ .vmem, ⟨12, _⟩ => ⟨S1200x128, .f32⟩
  | .local _ .vmem, ⟨13, _⟩ => ⟨S16x1x1200, .f32⟩
  | .local _ .vmem, ⟨14, _⟩ => ⟨S16x1x1344, .f32⟩
  | _, _ => ⟨S16x1200x256, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_scratch3 : Ref sig .tc := ⟨.vmem, 13, rfl⟩
abbrev cc0_scratch4 : Ref sig .tc := ⟨.vmem, 14, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem6_0 : DmaSem sig := 9

abbrev nD : Nat := 1
abbrev τ : Topo := Topo.v7x

variable {F : FTy → Type} [FloatOps F]

abbrev grid0 : Pipeline.Grid := ⟨1, ![16], ![false]⟩

def k0_mult1 (i : grid0.Coords) : BitVec 32 :=
  let arg0 : BitVec 32 := BitVec.ofNat 32 (i 0).val
  let c3_i32 : BitVec 32 := 3#32
  let v0 : BitVec 32 := Scalar.shrui arg0 c3_i32
  let c3_i32_0 : BitVec 32 := 3#32
  let v1 : BitVec 32 := Scalar.shli v0 c3_i32_0
  v1
def k0_off1 (i : grid0.Coords) : Fin 2 → Nat :=
  let arg0 : BitVec 32 := BitVec.ofNat 32 (i 0).val
  let c3_i32 : BitVec 32 := 3#32
  let v0 : BitVec 32 := Scalar.shrui arg0 c3_i32
  let c3_i32_0 : BitVec 32 := 3#32
  let v1 : BitVec 32 := Scalar.shli v0 c3_i32_0
  let v2 : BitVec 32 := v1
  let v7 : Index := Scalar.indexCast v2
  let c0 : Index := 0#32
  ![v7.toNat, 0]
def k0_off2 (i : grid0.Coords) : Fin 2 → Nat :=
  let arg0 : BitVec 32 := BitVec.ofNat 32 (i 0).val
  let c3_i32 : BitVec 32 := 3#32
  let v0 : BitVec 32 := Scalar.shrui arg0 c3_i32
  let c3_i32_0 : BitVec 32 := 3#32
  let v1 : BitVec 32 := Scalar.shli v0 c3_i32_0
  let v2 : BitVec 32 := v1
  let v23 : Index := Scalar.indexCast v2
  let c128 : Index := 128#32
  ![v23.toNat, 128]
def k0_off3 (i : grid0.Coords) : Fin 2 → Nat :=
  let arg0 : BitVec 32 := BitVec.ofNat 32 (i 0).val
  let c3_i32 : BitVec 32 := 3#32
  let v0 : BitVec 32 := Scalar.shrui arg0 c3_i32
  let c3_i32_0 : BitVec 32 := 3#32
  let v1 : BitVec 32 := Scalar.shli v0 c3_i32_0
  let v2 : BitVec 32 := v1
  let v39 : Index := Scalar.indexCast v2
  let c256 : Index := 256#32
  ![v39.toNat, 256]
def k0_off4 (i : grid0.Coords) : Fin 2 → Nat :=
  let arg0 : BitVec 32 := BitVec.ofNat 32 (i 0).val
  let c3_i32 : BitVec 32 := 3#32
  let v0 : BitVec 32 := Scalar.shrui arg0 c3_i32
  let c3_i32_0 : BitVec 32 := 3#32
  let v1 : BitVec 32 := Scalar.shli v0 c3_i32_0
  let v2 : BitVec 32 := v1
  let v55 : Index := Scalar.indexCast v2
  let c384 : Index := 384#32
  ![v55.toNat, 384]
def k0_off5 (i : grid0.Coords) : Fin 2 → Nat :=
  let arg0 : BitVec 32 := BitVec.ofNat 32 (i 0).val
  let c3_i32 : BitVec 32 := 3#32
  let v0 : BitVec 32 := Scalar.shrui arg0 c3_i32
  let c3_i32_0 : BitVec 32 := 3#32
  let v1 : BitVec 32 := Scalar.shli v0 c3_i32_0
  let v2 : BitVec 32 := v1
  let v71 : Index := Scalar.indexCast v2
  let c512 : Index := 512#32
  ![v71.toNat, 512]
def k0_off6 (i : grid0.Coords) : Fin 2 → Nat :=
  let arg0 : BitVec 32 := BitVec.ofNat 32 (i 0).val
  let c3_i32 : BitVec 32 := 3#32
  let v0 : BitVec 32 := Scalar.shrui arg0 c3_i32
  let c3_i32_0 : BitVec 32 := 3#32
  let v1 : BitVec 32 := Scalar.shli v0 c3_i32_0
  let v2 : BitVec 32 := v1
  let v87 : Index := Scalar.indexCast v2
  let c640 : Index := 640#32
  ![v87.toNat, 640]
def k0_off7 (i : grid0.Coords) : Fin 2 → Nat :=
  let arg0 : BitVec 32 := BitVec.ofNat 32 (i 0).val
  let c3_i32 : BitVec 32 := 3#32
  let v0 : BitVec 32 := Scalar.shrui arg0 c3_i32
  let c3_i32_0 : BitVec 32 := 3#32
  let v1 : BitVec 32 := Scalar.shli v0 c3_i32_0
  let v2 : BitVec 32 := v1
  let v103 : Index := Scalar.indexCast v2
  let c768 : Index := 768#32
  ![v103.toNat, 768]
def k0_off8 (i : grid0.Coords) : Fin 2 → Nat :=
  let arg0 : BitVec 32 := BitVec.ofNat 32 (i 0).val
  let c3_i32 : BitVec 32 := 3#32
  let v0 : BitVec 32 := Scalar.shrui arg0 c3_i32
  let c3_i32_0 : BitVec 32 := 3#32
  let v1 : BitVec 32 := Scalar.shli v0 c3_i32_0
  let v2 : BitVec 32 := v1
  let v119 : Index := Scalar.indexCast v2
  let c896 : Index := 896#32
  ![v119.toNat, 896]
def k0_off9 (i : grid0.Coords) : Fin 2 → Nat :=
  let arg0 : BitVec 32 := BitVec.ofNat 32 (i 0).val
  let c3_i32 : BitVec 32 := 3#32
  let v0 : BitVec 32 := Scalar.shrui arg0 c3_i32
  let c3_i32_0 : BitVec 32 := 3#32
  let v1 : BitVec 32 := Scalar.shli v0 c3_i32_0
  let v2 : BitVec 32 := v1
  let v135 : Index := Scalar.indexCast v2
  let c1024 : Index := 1024#32
  ![v135.toNat, 1024]
def k0_off10 (i : grid0.Coords) : Fin 2 → Nat :=
  let arg0 : BitVec 32 := BitVec.ofNat 32 (i 0).val
  let c3_i32 : BitVec 32 := 3#32
  let v0 : BitVec 32 := Scalar.shrui arg0 c3_i32
  let c3_i32_0 : BitVec 32 := 3#32
  let v1 : BitVec 32 := Scalar.shli v0 c3_i32_0
  let v2 : BitVec 32 := v1
  let v151 : Index := Scalar.indexCast v2
  let c1152 : Index := 1152#32
  ![v151.toNat, 1152]
def k0_off11 (i : grid0.Coords) : Fin 2 → Nat :=
  let arg0 : BitVec 32 := BitVec.ofNat 32 (i 0).val
  let c3_i32 : BitVec 32 := 3#32
  let v0 : BitVec 32 := Scalar.shrui arg0 c3_i32
  let c3_i32_0 : BitVec 32 := 3#32
  let v1 : BitVec 32 := Scalar.shli v0 c3_i32_0
  let v2 : BitVec 32 := v1
  let v171 : Index := Scalar.indexCast v2
  let c0_51 : Index := 0#32
  ![v171.toNat, 0]
def k0_off12 (i : grid0.Coords) : Fin 2 → Nat :=
  let arg0 : BitVec 32 := BitVec.ofNat 32 (i 0).val
  let c3_i32 : BitVec 32 := 3#32
  let v0 : BitVec 32 := Scalar.shrui arg0 c3_i32
  let c3_i32_0 : BitVec 32 := 3#32
  let v1 : BitVec 32 := Scalar.shli v0 c3_i32_0
  let v2 : BitVec 32 := v1
  let v179 : Index := Scalar.indexCast v2
  let c128_54 : Index := 128#32
  ![v179.toNat, 128]
def k0_off13 (i : grid0.Coords) : Fin 2 → Nat :=
  let arg0 : BitVec 32 := BitVec.ofNat 32 (i 0).val
  let c3_i32 : BitVec 32 := 3#32
  let v0 : BitVec 32 := Scalar.shrui arg0 c3_i32
  let c3_i32_0 : BitVec 32 := 3#32
  let v1 : BitVec 32 := Scalar.shli v0 c3_i32_0
  let v2 : BitVec 32 := v1
  let v187 : Index := Scalar.indexCast v2
  let c256_57 : Index := 256#32
  ![v187.toNat, 256]
def k0_off14 (i : grid0.Coords) : Fin 2 → Nat :=
  let arg0 : BitVec 32 := BitVec.ofNat 32 (i 0).val
  let c3_i32 : BitVec 32 := 3#32
  let v0 : BitVec 32 := Scalar.shrui arg0 c3_i32
  let c3_i32_0 : BitVec 32 := 3#32
  let v1 : BitVec 32 := Scalar.shli v0 c3_i32_0
  let v2 : BitVec 32 := v1
  let v195 : Index := Scalar.indexCast v2
  let c384_60 : Index := 384#32
  ![v195.toNat, 384]
def k0_off15 (i : grid0.Coords) : Fin 2 → Nat :=
  let arg0 : BitVec 32 := BitVec.ofNat 32 (i 0).val
  let c3_i32 : BitVec 32 := 3#32
  let v0 : BitVec 32 := Scalar.shrui arg0 c3_i32
  let c3_i32_0 : BitVec 32 := 3#32
  let v1 : BitVec 32 := Scalar.shli v0 c3_i32_0
  let v2 : BitVec 32 := v1
  let v203 : Index := Scalar.indexCast v2
  let c512_63 : Index := 512#32
  ![v203.toNat, 512]
def k0_off16 (i : grid0.Coords) : Fin 2 → Nat :=
  let arg0 : BitVec 32 := BitVec.ofNat 32 (i 0).val
  let c3_i32 : BitVec 32 := 3#32
  let v0 : BitVec 32 := Scalar.shrui arg0 c3_i32
  let c3_i32_0 : BitVec 32 := 3#32
  let v1 : BitVec 32 := Scalar.shli v0 c3_i32_0
  let v2 : BitVec 32 := v1
  let v211 : Index := Scalar.indexCast v2
  let c640_66 : Index := 640#32
  ![v211.toNat, 640]
def k0_off17 (i : grid0.Coords) : Fin 2 → Nat :=
  let arg0 : BitVec 32 := BitVec.ofNat 32 (i 0).val
  let c3_i32 : BitVec 32 := 3#32
  let v0 : BitVec 32 := Scalar.shrui arg0 c3_i32
  let c3_i32_0 : BitVec 32 := 3#32
  let v1 : BitVec 32 := Scalar.shli v0 c3_i32_0
  let v2 : BitVec 32 := v1
  let v219 : Index := Scalar.indexCast v2
  let c768_69 : Index := 768#32
  ![v219.toNat, 768]
def k0_off18 (i : grid0.Coords) : Fin 2 → Nat :=
  let arg0 : BitVec 32 := BitVec.ofNat 32 (i 0).val
  let c3_i32 : BitVec 32 := 3#32
  let v0 : BitVec 32 := Scalar.shrui arg0 c3_i32
  let c3_i32_0 : BitVec 32 := 3#32
  let v1 : BitVec 32 := Scalar.shli v0 c3_i32_0
  let v2 : BitVec 32 := v1
  let v227 : Index := Scalar.indexCast v2
  let c896_72 : Index := 896#32
  ![v227.toNat, 896]
def k0_off19 (i : grid0.Coords) : Fin 2 → Nat :=
  let arg0 : BitVec 32 := BitVec.ofNat 32 (i 0).val
  let c3_i32 : BitVec 32 := 3#32
  let v0 : BitVec 32 := Scalar.shrui arg0 c3_i32
  let c3_i32_0 : BitVec 32 := 3#32
  let v1 : BitVec 32 := Scalar.shli v0 c3_i32_0
  let v2 : BitVec 32 := v1
  let v235 : Index := Scalar.indexCast v2
  let c1024_75 : Index := 1024#32
  ![v235.toNat, 1024]
def k0_off20 (i : grid0.Coords) : Fin 2 → Nat :=
  let arg0 : BitVec 32 := BitVec.ofNat 32 (i 0).val
  let c3_i32 : BitVec 32 := 3#32
  let v0 : BitVec 32 := Scalar.shrui arg0 c3_i32
  let c3_i32_0 : BitVec 32 := 3#32
  let v1 : BitVec 32 := Scalar.shli v0 c3_i32_0
  let v2 : BitVec 32 := v1
  let v243 : Index := Scalar.indexCast v2
  let c1152_78 : Index := 1152#32
  ![v243.toNat, 1152]
def k0_off21 (i : grid0.Coords) : Fin 2 → Nat :=
  let arg0 : BitVec 32 := BitVec.ofNat 32 (i 0).val
  let c3_i32 : BitVec 32 := 3#32
  let v0 : BitVec 32 := Scalar.shrui arg0 c3_i32
  let c3_i32_0 : BitVec 32 := 3#32
  let v1 : BitVec 32 := Scalar.shli v0 c3_i32_0
  let v2 : BitVec 32 := v1
  let v251 : Index := Scalar.indexCast v2
  let c1280 : Index := 1280#32
  ![v251.toNat, 1280]
def k0_off22 (i : grid0.Coords) : Fin 3 → Nat :=
  let arg0 : BitVec 32 := BitVec.ofNat 32 (i 0).val
  let v13068 : Index := Scalar.indexCast arg0
  let c0_1447 : Index := 0#32
  let c0_1448 : Index := 0#32
  ![v13068.toNat, 0, 0]
def k0_off23 (i : grid0.Coords) : Fin 3 → Nat :=
  let arg0 : BitVec 32 := BitVec.ofNat 32 (i 0).val
  let v13074 : Index := Scalar.indexCast arg0
  let c0_1450 : Index := 0#32
  let c128_1451 : Index := 128#32
  ![v13074.toNat, 0, 128]
def k0_off24 (i : grid0.Coords) : Fin 3 → Nat :=
  let arg0 : BitVec 32 := BitVec.ofNat 32 (i 0).val
  let v13080 : Index := Scalar.indexCast arg0
  let c0_1453 : Index := 0#32
  let c256_1454 : Index := 256#32
  ![v13080.toNat, 0, 256]
def k0_off25 (i : grid0.Coords) : Fin 3 → Nat :=
  let arg0 : BitVec 32 := BitVec.ofNat 32 (i 0).val
  let v13086 : Index := Scalar.indexCast arg0
  let c0_1456 : Index := 0#32
  let c384_1457 : Index := 384#32
  ![v13086.toNat, 0, 384]
def k0_off26 (i : grid0.Coords) : Fin 3 → Nat :=
  let arg0 : BitVec 32 := BitVec.ofNat 32 (i 0).val
  let v13092 : Index := Scalar.indexCast arg0
  let c0_1459 : Index := 0#32
  let c512_1460 : Index := 512#32
  ![v13092.toNat, 0, 512]
def k0_off27 (i : grid0.Coords) : Fin 3 → Nat :=
  let arg0 : BitVec 32 := BitVec.ofNat 32 (i 0).val
  let v13098 : Index := Scalar.indexCast arg0
  let c0_1462 : Index := 0#32
  let c640_1463 : Index := 640#32
  ![v13098.toNat, 0, 640]
def k0_off28 (i : grid0.Coords) : Fin 3 → Nat :=
  let arg0 : BitVec 32 := BitVec.ofNat 32 (i 0).val
  let v13104 : Index := Scalar.indexCast arg0
  let c0_1465 : Index := 0#32
  let c768_1466 : Index := 768#32
  ![v13104.toNat, 0, 768]
def k0_off29 (i : grid0.Coords) : Fin 3 → Nat :=
  let arg0 : BitVec 32 := BitVec.ofNat 32 (i 0).val
  let v13110 : Index := Scalar.indexCast arg0
  let c0_1468 : Index := 0#32
  let c896_1469 : Index := 896#32
  ![v13110.toNat, 0, 896]
def k0_off30 (i : grid0.Coords) : Fin 3 → Nat :=
  let arg0 : BitVec 32 := BitVec.ofNat 32 (i 0).val
  let v13116 : Index := Scalar.indexCast arg0
  let c0_1471 : Index := 0#32
  let c1024_1472 : Index := 1024#32
  ![v13116.toNat, 0, 1024]
def k0_off31 (i : grid0.Coords) : Fin 3 → Nat :=
  let arg0 : BitVec 32 := BitVec.ofNat 32 (i 0).val
  let v13122 : Index := Scalar.indexCast arg0
  let c0_1474 : Index := 0#32
  let c1152_1475 : Index := 1152#32
  ![v13122.toNat, 0, 1152]
def k0_off32 (i : grid0.Coords) : Fin 3 → Nat :=
  let arg0 : BitVec 32 := BitVec.ofNat 32 (i 0).val
  let v13129 : Index := Scalar.indexCast arg0
  let c0_1477 : Index := 0#32
  let c1280_1478 : Index := 1280#32
  ![v13129.toNat, 0, 1280]
def k0_off33 (i : grid0.Coords) : Fin 3 → Nat :=
  let arg0 : BitVec 32 := BitVec.ofNat 32 (i 0).val
  let v13141 : Index := Scalar.indexCast arg0
  let c0_1483 : Index := 0#32
  let c0_1484 : Index := 0#32
  ![v13141.toNat, 0, 0]
def k0_off34 (i : grid0.Coords) : Fin 3 → Nat :=
  let arg0 : BitVec 32 := BitVec.ofNat 32 (i 0).val
  let v13150 : Index := Scalar.indexCast arg0
  let c0_1489 : Index := 0#32
  let c128_1490 : Index := 128#32
  ![v13150.toNat, 0, 128]
def k0_off35 (i : grid0.Coords) : Fin 3 → Nat :=
  let arg0 : BitVec 32 := BitVec.ofNat 32 (i 0).val
  let v13159 : Index := Scalar.indexCast arg0
  let c0_1495 : Index := 0#32
  let c256_1496 : Index := 256#32
  ![v13159.toNat, 0, 256]
def k0_off36 (i : grid0.Coords) : Fin 3 → Nat :=
  let arg0 : BitVec 32 := BitVec.ofNat 32 (i 0).val
  let v13168 : Index := Scalar.indexCast arg0
  let c0_1501 : Index := 0#32
  let c384_1502 : Index := 384#32
  ![v13168.toNat, 0, 384]
def k0_off37 (i : grid0.Coords) : Fin 3 → Nat :=
  let arg0 : BitVec 32 := BitVec.ofNat 32 (i 0).val
  let v13177 : Index := Scalar.indexCast arg0
  let c0_1507 : Index := 0#32
  let c512_1508 : Index := 512#32
  ![v13177.toNat, 0, 512]
def k0_off38 (i : grid0.Coords) : Fin 3 → Nat :=
  let arg0 : BitVec 32 := BitVec.ofNat 32 (i 0).val
  let v13186 : Index := Scalar.indexCast arg0
  let c0_1513 : Index := 0#32
  let c640_1514 : Index := 640#32
  ![v13186.toNat, 0, 640]
def k0_off39 (i : grid0.Coords) : Fin 3 → Nat :=
  let arg0 : BitVec 32 := BitVec.ofNat 32 (i 0).val
  let v13195 : Index := Scalar.indexCast arg0
  let c0_1519 : Index := 0#32
  let c768_1520 : Index := 768#32
  ![v13195.toNat, 0, 768]
def k0_off40 (i : grid0.Coords) : Fin 3 → Nat :=
  let arg0 : BitVec 32 := BitVec.ofNat 32 (i 0).val
  let v13204 : Index := Scalar.indexCast arg0
  let c0_1525 : Index := 0#32
  let c896_1526 : Index := 896#32
  ![v13204.toNat, 0, 896]
def k0_off41 (i : grid0.Coords) : Fin 3 → Nat :=
  let arg0 : BitVec 32 := BitVec.ofNat 32 (i 0).val
  let v13213 : Index := Scalar.indexCast arg0
  let c0_1531 : Index := 0#32
  let c1024_1532 : Index := 1024#32
  ![v13213.toNat, 0, 1024]
def k0_off42 (i : grid0.Coords) : Fin 3 → Nat :=
  let arg0 : BitVec 32 := BitVec.ofNat 32 (i 0).val
  let v13224 : Index := Scalar.indexCast arg0
  let c0_1537 : Index := 0#32
  let c1152_1538 : Index := 1152#32
  ![v13224.toNat, 0, 1152]
def k0_cond1 (i : grid0.Coords) : BitVec 1 :=
  let arg0 : BitVec 32 := BitVec.ofNat 32 (i 0).val
  let c15_i32 : BitVec 32 := 15#32
  let v13228 : BitVec 1 := Scalar.cmpi .eq arg0 c15_i32
  let v13229 : BitVec 32 := Scalar.extui v13228
  let c0_i32 : BitVec 32 := 0#32
  let v13230 : BitVec 1 := Scalar.cmpi .ne v13229 c0_i32
  v13230

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S16x1200 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S16x1344 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x1200x256 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1344x256 .fp8e4m3 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1200x1344 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S16x1200 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S16x1344 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== KernelIdeal.lean ====
variable {F : FTy → Type} [FloatOps F] [Named F]
def κ : String → Option EReal := fun
  | "mask" => some ⊥
  | "scale" => some (((Real.log 2)⁻¹ * (5 / 128) : ℝ) : EReal)
  | _ => none
-- ==== ReferenceIdeal.lean ====
abbrev S16x1200x256 : Shape := ⟨3, ![16, 1200, 256]⟩
abbrev S16x1200 : Shape := ⟨2, ![16, 1200]⟩
abbrev S16x1344x256 : Shape := ⟨3, ![16, 1344, 256]⟩
abbrev S16x1344 : Shape := ⟨2, ![16, 1344]⟩
abbrev S16x1200x1344 : Shape := ⟨3, ![16, 1200, 1344]⟩
abbrev S16x1200x1 : Shape := ⟨3, ![16, 1200, 1]⟩
abbrev S16x1x1344 : Shape := ⟨3, ![16, 1, 1344]⟩

abbrev nBuf : Space → Nat
  | .hbm => 7
  | .vmem => 7
  | .smem => 0
  | _ => 0

abbrev bufTy : (tb : Table) → Fin (tcTables nBuf tb) → BufTy
  | .hbm, ⟨0, _⟩ => ⟨S16x1200x256, .fp8e4m3⟩
  | .hbm, ⟨1, _⟩ => ⟨S16x1200, .f32⟩
  | .hbm, ⟨2, _⟩ => ⟨S16x1344x256, .fp8e4m3⟩
  | .hbm, ⟨3, _⟩ => ⟨S16x1344, .f32⟩
  | .hbm, ⟨4, _⟩ => ⟨S16x1200x1344, .bf16⟩
  | .hbm, ⟨5, _⟩ => ⟨S16x1200, .f32⟩
  | .hbm, ⟨6, _⟩ => ⟨S16x1344, .f32⟩
  | .local _ .vmem, ⟨0, _⟩ => ⟨S16x1200x256, .fp8e4m3⟩
  | .local _ .vmem, ⟨1, _⟩ => ⟨S16x1200, .f32⟩
  | .local _ .vmem, ⟨2, _⟩ => ⟨S16x1344x256, .fp8e4m3⟩
  | .local _ .vmem, ⟨3, _⟩ => ⟨S16x1344, .f32⟩
  | .local _ .vmem, ⟨4, _⟩ => ⟨S16x1200x1344, .bf16⟩
  | .local _ .vmem, ⟨5, _⟩ => ⟨S16x1200, .f32⟩
  | .local _ .vmem, ⟨6, _⟩ => ⟨S16x1344, .f32⟩
  | _, _ => ⟨S16x1200x256, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := .none

abbrev stage0_0 : Fin 1 → Memref sig .tc .vmem S16x1200x256 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S16x1200 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S16x1344x256 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S16x1344 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S16x1200x1344 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S16x1200 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S16x1344 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== Proof.Struct.lean ====
module

public import proofs.«01_k».proof.KernelIdeal

/-!
The kernel's body written as loops. `body` makes the same loads, stores and arithmetic as the printed body `cc0__body`, in the same
order, but as three passes over chunks of rows and tiles of columns instead of one straight line.
-/

@[expose] public section

noncomputable section

namespace Cert.KernelIdeal.Own

open Idealize.ShloMosaic Idealize.SL.Sem
open Cert.KernelIdeal Cert.KernelIdeal.Facts₀ Cert.KernelIdeal.Facts

variable {F : FTy → Type} [FloatOps F] [Named F] [Facts]

abbrev M1 (a : ℕ) : Shape := ⟨1, ![a]⟩
abbrev M2 (a b : ℕ) : Shape := ⟨2, ![a, b]⟩
abbrev M3 (a b c : ℕ) : Shape := ⟨3, ![a, b, c]⟩

/-- A program of the kernel's core. -/
abbrev Pr (F : FTy → Type) (α : Type) := Prog (TpuEff nD τ sig (Elt F) Λ₀ .tc) α

theorem in2 {a b o p r c : ℕ} (h : o + r ≤ a ∧ p + c ≤ b) : ∀ i, (![o, p] : Fin 2 → ℕ) i + (M2 r c).size i ≤ (M2 a b).size i := by
  intro i; match i with
  | 0 => exact h.1
  | 1 => exact h.2
theorem in3 {a b d o p q r c e : ℕ} (h : o + r ≤ a ∧ p + c ≤ b ∧ q + e ≤ d) :
    ∀ i, (![o, p, q] : Fin 3 → ℕ) i + (M3 r c e).size i ≤ (M3 a b d).size i := by
  intro i; match i with
  | 0 => exact h.1
  | 1 => exact h.2.1
  | 2 => exact h.2.2
theorem pos2 {r c : ℕ} (h : 0 < r ∧ 0 < c) : 0 < (M2 r c).numel := by
  simp [Shape.numel, Fin.prod_univ_two, h.1, h.2]
theorem pos3 {r c d : ℕ} (h : 0 < r ∧ 0 < c ∧ 0 < d) : 0 < (M3 r c d).numel := by
  simp [Shape.numel, Fin.prod_univ_three, h.1, h.2.1, h.2.2]
theorem sl2 {a b o p r c : ℕ} (h : o + r ≤ a ∧ p + c ≤ b) : (M2 a b).Slices ![o, p] (M2 r c) :=
  ⟨rfl, fun i => by
    match i with
    | 0 => exact h.1
    | 1 => exact h.2⟩
theorem bc2 {a b c d : ℕ} (h : (a = 1 ∨ a = c) ∧ (b = 1 ∨ b = d)) : (M2 a b).Broadcasts (M2 c d) :=
  ⟨le_refl 2, fun i => by
    match i with
    | 0 => exact h.1.imp id fun e _ => e
    | 1 => exact h.2.imp id fun e _ => e⟩
theorem sc12 {a : ℕ} : (M1 a).ShapeCasts (M2 1 a) := by simp [Shape.ShapeCasts, Shape.numel, Fin.prod_univ_two]
theorem sc1c {a : ℕ} : (M1 a).ShapeCasts (M2 a 1) := by simp [Shape.ShapeCasts, Shape.numel, Fin.prod_univ_two]
theorem sc32 {a b : ℕ} : (M3 1 a b).ShapeCasts (M2 a b) := by simp [Shape.ShapeCasts, Shape.numel, Fin.prod_univ_two, Fin.prod_univ_three]
theorem sc23 {a b : ℕ} : (M2 a b).ShapeCasts (M3 1 a b) := by simp [Shape.ShapeCasts, Shape.numel, Fin.prod_univ_two, Fin.prod_univ_three]
theorem red0 {a b : ℕ} : (M2 a b).Reduces [0] (M1 b) :=
  ⟨rfl, Nat.one_pos, fun i => by match i with | 0 => rfl⟩
theorem red1 {a b : ℕ} : (M2 a b).Reduces [1] (M1 a) :=
  ⟨rfl, Nat.one_pos, fun i => by match i with | 0 => rfl⟩
theorem cat2 {r a b c : ℕ} (h : a + b = c) : Shape.Concatenates [M2 r a, M2 r b] (M2 r c) 1 := by
  refine ⟨le_refl 2, fun s hs => ?_, ?_⟩
  · rcases List.mem_cons.1 hs with rfl | hs
    · exact ⟨rfl, fun i hi => by match i with | 0 => rfl | 1 => exact absurd rfl hi⟩
    · rcases List.mem_cons.1 hs with rfl | hs
      · exact ⟨rfl, fun i hi => by match i with | 0 => rfl | 1 => exact absurd rfl hi⟩
      · exact absurd hs (List.not_mem_nil)
  · simpa using h
theorem tr2 {a b : ℕ} : (M2 a b).Transposes [1, 0] (M2 b a) :=
  ⟨(by decide : ([1, 0] : List (Fin 2)).Perm (List.finRange 2)), rfl, fun i => by match i with | 0 => rfl | 1 => rfl⟩
theorem pk3 {a b o r q e : ℕ} (h : 2 ∣ o ∧ 2 ∣ r) (hi) :
    (Rect.unit (s := M3 1 a b) ![0, o, q] (M3 1 r e).size hi).PackedRows (EltTy.packing .bf16) := by
  rw [show EltTy.packing .bf16 = 2 from by decide]
  have hr : 2 ≤ (M3 1 a b).rank := (by decide : 2 ≤ 3)
  exact Or.inr ⟨hr, rfl, Or.inl h⟩

/-- The window of `r` by `c` elements at `(o, p)`. -/
def ld2 {a b : ℕ} {e : EltTy} (m : Memref sig .tc .vmem (M2 a b) e) (o p r c : ℕ) (h : o + r ≤ a ∧ p + c ≤ b) (hp : 0 < r ∧ 0 < c) :
    Pr F (Vec F (M2 r c) e) :=
  Prog.lift (.load m (Rect.unit (s := M2 a b) ![o, p] (M2 r c).size (in2 h)).toLoadRect (View.loadsAt_vmem (pos2 hp)))
def ld3 {a b d : ℕ} {e : EltTy} (m : Memref sig .tc .vmem (M3 a b d) e) (o p q r c u : ℕ) (h : o + r ≤ a ∧ p + c ≤ b ∧ q + u ≤ d)
    (hp : 0 < r ∧ 0 < c ∧ 0 < u) : Pr F (Vec F (M3 r c u) e) :=
  Prog.lift (.load m (Rect.unit (s := M3 a b d) ![o, p, q] (M3 r c u).size (in3 h)).toLoadRect (View.loadsAt_vmem (pos3 hp)))
/-- A store over a window, with the load of the window that comes before it. -/
def st2 {a b : ℕ} (m : Memref sig .tc .vmem (M2 a b) .f32) (o p r c : ℕ) (h : o + r ≤ a ∧ p + c ≤ b) (hp : 0 < r ∧ 0 < c)
    (w : Vec F (M2 r c) .f32) : Pr F PUnit := do
  let _ ← ld2 m o p r c h hp
  Prog.lift (.store m (Rect.unit (s := M2 a b) ![o, p] (M2 r c).size (in2 h)) w Finset.univ
    (View.stores_vmem_bits_univ (pos2 hp) rfl) (.inl rfl))
def st3 {a b d : ℕ} (m : Memref sig .tc .vmem (M3 a b d) .f32) (o p q r c u : ℕ) (h : o + r ≤ a ∧ p + c ≤ b ∧ q + u ≤ d)
    (hp : 0 < r ∧ 0 < c ∧ 0 < u) (w : Vec F (M3 r c u) .f32) : Pr F PUnit := do
  let _ ← ld3 m o p q r c u h hp
  Prog.lift (.store m (Rect.unit (s := M3 a b d) ![o, p, q] (M3 r c u).size (in3 h)) w Finset.univ
    (View.stores_vmem_bits_univ (pos3 hp) rfl) (.inl rfl))
def st3b {b d : ℕ} (m : Memref sig .tc .vmem (M3 1 b d) .bf16) (hm : m.IsWhole) (p q c u : ℕ) (h : 0 + 1 ≤ 1 ∧ p + c ≤ b ∧ q + u ≤ d)
    (hp : 0 < 1 ∧ 0 < c ∧ 0 < u) (hk : 2 ∣ p ∧ 2 ∣ c) (w : Vec F (M3 1 c u) .bf16) : Pr F PUnit := do
  let _ ← ld3 m 0 p q 1 c u h hp
  Prog.lift (.store m (Rect.unit (s := M3 1 b d) ![0, p, q] (M3 1 c u).size (in3 h)) w Finset.univ
    (View.stores_vmem (pos3 hp) (hm.storeExact_slice rfl _ (pk3 hk _)) (fun _ => rfl)) (.inl rfl))

/-- `f 0`, …, `f (n - 1)` in turn, with what they return. -/
def loop {α : Type} : (n : ℕ) → (Fin n → Pr F α) → Pr F (Fin n → α)
  | 0, _ => pure Fin.elim0
  | n + 1, f => do
    let x ← f 0
    let xs ← loop n (fun i => f i.succ)
    pure (Fin.cons x xs)

/-- `op (… (op (f 0) (f 1)) …) (f n)`. -/
def fold {α : Type} (op : α → α → α) : (n : ℕ) → (Fin (n + 1) → α) → α
  | 0, f => f 0
  | n + 1, f => op (fold op n (fun i => f i.castSucc)) (f (Fin.last (n + 1)))

/-- A family over eleven tiles from its first ten and its last. -/
def ext {α : Type} {n : ℕ} (f : Fin n → α) (l : α) (t : Fin (n + 1)) : α := if h : t.val < n then f ⟨t.val, h⟩ else l

/-- The rows of a block of `8 (n + 1)` rows combined to eight. -/
def foldRows (op : Vec F (M2 8 128) .f32 → Vec F (M2 8 128) .f32 → Vec F (M2 8 128) .f32) (n : ℕ) (x : Vec F (M2 (8 * (n + 1)) 128) .f32) :
    Vec F (M2 8 128) .f32 :=
  fold op n fun i => extractStridedSlice (M2 8 128) ![8 * i.val, 0] x (sl2 ⟨by omega, by omega⟩)

section Scales

/-- Row `b` of eight picked by a masked sum over the rows. -/
def pick (msk : IVec (M2 8 1) 1) (w : ℕ) (x : Vec F (M2 8 w) .f32) : Vec F (M2 1 w) .f32 :=
  shapeCast (M2 1 w) (multiReduction .add [0] (M1 w)
    (select (broadcastTo (M2 8 w) (shapeCast (M2 8 1) msk rfl) (bc2 ⟨.inr rfl, .inl rfl⟩)) x (broadcast (M2 8 w) (Scalar.ofBits .f32 0x00000000#32)))
    0x00000000#32 red0 (.inl rfl) rfl) sc12

/-- Which of the eight rows that start at `v2` is the point's own. -/
def mask8 (i : grid0.Coords) : IVec (M2 8 1) 1 :=
  let arg0 : BitVec 32 := BitVec.ofNat 32 (i 0).val
  cmpi .eq (iota .tc (M2 8 1) 32 [0] (by decide)) (broadcast (M2 8 1) (Scalar.subi arg0 (Scalar.shli (Scalar.shrui arg0 3#32) 3#32)))

/-- The eight rows' start. -/
def base8 (i : grid0.Coords) : ℕ :=
  (Scalar.indexCast (Scalar.shli (Scalar.shrui (BitVec.ofNat 32 (i 0).val) 3#32) 3#32)).toNat

/-- The point's number, as the kernel computes it. -/
def pt (i : grid0.Coords) : ℕ := (Scalar.indexCast (BitVec.ofNat 32 (i 0).val)).toNat

/-- A row of 128 stood up as a column and repeated over 128 lanes. -/
def stand (v : Vec F (M2 1 128) .f32) : Vec F (M2 128 128) .f32 :=
  transpose (M2 128 128) [1, 0] (broadcastTo (M2 128 128) (shapeCast (M2 1 128) v rfl) (bc2 ⟨.inl rfl, .inr rfl⟩)) tr2

variable (i : grid0.Coords) (hb : base8 i + 8 ≤ 16)

def rowScales (arg1 : Memref sig .tc .vmem (M2 16 1200) .f32) (arg9 : Memref sig .tc .vmem (M2 1200 128) .f32) : Pr F PUnit := do
  let _ ← loop 9 fun t => do
    let x ← ld2 arg1 (base8 i) (128 * t.val) 8 128 ⟨hb, by omega⟩ (by decide)
    st2 arg9 (128 * t.val) 0 128 128 ⟨by omega, by decide⟩ (by decide)
      (shapeCast (M2 128 128) (stand (mulf (pick (mask8 i) 128 x) (broadcast (M2 1 128) (Named.named κ "scale" 0x3D66D4CA#32)))) rfl)
  let x ← ld2 arg1 (base8 i) 1152 8 48 ⟨hb, by decide⟩ (by decide)
  st2 arg9 1152 0 48 128 (by decide) (by decide)
    (shapeCast (M2 48 128) (extractStridedSlice (M2 48 128) ![0, 0]
      (stand (concatenate (M2 1 128) 1
        [⟨M2 1 48, mulf (pick (mask8 i) 48 x) (broadcast (M2 1 48) (Named.named κ "scale" 0x3D66D4CA#32))⟩,
         ⟨M2 1 80, broadcast (M2 1 80) (Scalar.ofBits .f32 0x00000000#32)⟩] (cat2 rfl))) (sl2 (by decide))) rfl)

def colScales (arg2 : Memref sig .tc .vmem (M2 16 1344) .f32) : Pr F (Fin 11 → Vec F (M2 1 128) .f32) := do
  let cs ← loop 10 fun t => do
    let x ← ld2 arg2 (base8 i) (128 * t.val) 8 128 ⟨hb, by omega⟩ (by decide)
    pure (pick (mask8 i) 128 x)
  let x ← ld2 arg2 (base8 i) 1280 8 64 ⟨hb, by decide⟩ (by decide)
  pure (ext cs (concatenate (M2 1 128) 1
        [⟨M2 1 64, pick (mask8 i) 64 x⟩, ⟨M2 1 64, broadcast (M2 1 64) (Scalar.ofBits .f32 0x00000000#32)⟩] (cat2 rfl)))

end Scales

section Chunk

/-- The rows of a chunk: `8 (n + 1)` of them. -/
abbrev rows (n : ℕ) : ℕ := 8 * (n + 1)

variable (n rs : ℕ) (hrs : rs + rows n ≤ 1200)

/-- The product of a chunk's features with `k` columns' features. -/
def dots (k : ℕ) (f0 : Vec F (M2 (rows n) 256) .fp8e4m3) (f1 : Vec F (M3 1 k 256) .fp8e4m3) : Vec F (M2 (rows n) k) .f32 :=
  matmul (DotDims.transposedRhs (rows n) 256 k) none f0 (shapeCast (M2 k 256) f1 sc32) (constant (M2 (rows n) k) .f32 0x00000000#32)

/-- A tile of products times the two scales. -/
def scaled (a : Vec F (M2 (rows n) 128) .f32) (c : Vec F (M2 1 128) .f32) (v : Vec F (M2 (rows n) 128) .f32) : Vec F (M2 (rows n) 128) .f32 :=
  mulf (mulf v a) (broadcastTo (M2 (rows n) 128) c (bc2 ⟨.inl rfl, .inr rfl⟩))

/-- The last tile, its lanes from 64 on masked. -/
def masked (x : Vec F (M2 (rows n) 128) .f32) : Vec F (M2 (rows n) 128) .f32 :=
  select (broadcastTo (M2 (rows n) 128) (shapeCast (M2 1 128) (cmpi .slt (iota .tc (M2 1 128) 32 [1] (by decide)) (broadcast (M2 1 128) 64#32)) rfl)
    (bc2 ⟨.inl rfl, .inr rfl⟩)) x (broadcast (M2 (rows n) 128) (Named.named κ "mask" 0xF149F2CA#32))

/-- A column of `rows n` repeated over 128 lanes. -/
def lanes (v : Vec F (M2 (rows n) 1) .f32) : Vec F (M2 (rows n) 128) .f32 :=
  shapeCast (M2 (rows n) 128) (broadcastTo (M2 (rows n) 128) (shapeCast (M2 (rows n) 1) v rfl) (bc2 ⟨.inr rfl, .inl rfl⟩)) rfl

variable (arg3 : Memref sig .tc .vmem (M3 1 1200 256) .fp8e4m3) (arg4 : Memref sig .tc .vmem (M3 1 1344 256) .fp8e4m3)
  (arg5 : Memref sig .tc .vmem (M3 1 1200 1344) .bf16) (harg5 : arg5.IsWhole)
  (arg8 : Memref sig .tc .vmem (M2 1200 1408) .f32) (arg9 arg10 : Memref sig .tc .vmem (M2 1200 128) .f32)

/-- Pass 1 on a chunk: scaled products, their rows' maxima, and their columns' maxima over the chunk, eight partial ones a column. -/
def pass1 (cs : Fin 11 → Vec F (M2 1 128) .f32) : Pr F (Fin 11 → Vec F (M2 8 128) .f32) := do
  let f0 ← ld3 arg3 0 rs 0 1 (rows n) 256 ⟨by decide, hrs, by decide⟩ ⟨by decide, by simp [rows], by decide⟩
  let a ← ld2 arg9 rs 0 (rows n) 128 ⟨hrs, by decide⟩ ⟨by simp [rows], by decide⟩
  let xs ← loop 5 fun g => do
    let f1 ← ld3 arg4 0 (256 * g.val) 0 1 256 256 ⟨by decide, by omega, by decide⟩ (by decide)
    let acc := dots n 256 (shapeCast (M2 (rows n) 256) f0 sc32) f1
    let x := scaled n a (cs ⟨2 * g.val, by omega⟩) (extractStridedSlice (M2 (rows n) 128) ![0, 0] acc (sl2 ⟨by omega, by decide⟩))
    st2 arg8 rs (256 * g.val) (rows n) 128 ⟨hrs, by omega⟩ ⟨by simp [rows], by decide⟩ (shapeCast (M2 (rows n) 128) x rfl)
    let y := scaled n a (cs ⟨2 * g.val + 1, by omega⟩) (extractStridedSlice (M2 (rows n) 128) ![0, 128] acc (sl2 ⟨by omega, by decide⟩))
    st2 arg8 rs (256 * g.val + 128) (rows n) 128 ⟨hrs, by omega⟩ ⟨by simp [rows], by decide⟩ (shapeCast (M2 (rows n) 128) y rfl)
    pure (x, y)
  let f1 ← ld3 arg4 0 1280 0 1 64 256 (by decide) (by decide)
  let acc := dots n 64 (shapeCast (M2 (rows n) 256) f0 sc32) f1
  let x := masked n (scaled n a (cs 10) (concatenate (M2 (rows n) 128) 1
    [⟨M2 (rows n) 64, acc⟩, ⟨M2 (rows n) 64, broadcast (M2 (rows n) 64) (Scalar.ofBits .f32 0x00000000#32)⟩] (cat2 rfl)))
  st2 arg8 rs 1280 (rows n) 128 ⟨hrs, by decide⟩ ⟨by simp [rows], by decide⟩ (shapeCast (M2 (rows n) 128) x rfl)
  let all : Fin 11 → Vec F (M2 (rows n) 128) .f32 :=
    ext (fun t : Fin 10 => if t.val % 2 = 0 then (xs ⟨t.val / 2, by omega⟩).1 else (xs ⟨t.val / 2, by omega⟩).2) x
  st2 arg10 rs 0 (rows n) 128 ⟨hrs, by decide⟩ ⟨by simp [rows], by decide⟩
    (lanes n (shapeCast (M2 (rows n) 1) (multiReduction .maximumf [1] (M1 (rows n)) (fold maximumf 10 all) 0xFF800000#32 red1 (.inl rfl) rfl) sc1c))
  pure fun t => foldRows maximumf n (all t)

/-- Pass 2 on a chunk: both exponentials, their product, the row sums' reciprocals, and the columns' sums over the chunk. -/
def pass2 (sh : Fin 11 → Vec F (M2 1 128) .f32) : Pr F (Fin 11 → Vec F (M2 8 128) .f32) := do
  let r ← ld2 arg10 rs 0 (rows n) 128 ⟨hrs, by decide⟩ ⟨by simp [rows], by decide⟩
  let es ← loop 11 fun t => do
    let x ← ld2 arg8 rs (128 * t.val) (rows n) 128 ⟨hrs, by omega⟩ ⟨by simp [rows], by decide⟩
    let er := exp2 (subf x r)
    let ec := exp2 (subf x (broadcastTo (M2 (rows n) 128) (sh t) (bc2 ⟨.inl rfl, .inr rfl⟩)))
    st2 arg8 rs (128 * t.val) (rows n) 128 ⟨hrs, by omega⟩ ⟨by simp [rows], by decide⟩ (shapeCast (M2 (rows n) 128) (mulf er ec) rfl)
    pure (er, ec)
  st2 arg10 rs 0 (rows n) 128 ⟨hrs, by decide⟩ ⟨by simp [rows], by decide⟩
    (lanes n (divf (broadcast (M2 (rows n) 1) (Scalar.ofBits .f32 0x3F800000#32))
      (shapeCast (M2 (rows n) 1) (multiReduction .add [1] (M1 (rows n)) (fold addf 10 fun t => (es t).1) 0x00000000#32 red1 (.inl rfl) rfl) sc1c)))
  pure fun t => foldRows addf n (es t).2

/-- Pass 3 on a chunk: the confidences, their rows' maxima, and their columns' maxima over the chunk. -/
def pass3 (h2 : 2 ∣ rs) (inv : Fin 11 → Vec F (M2 1 128) .f32) : Pr F (Fin 11 → Vec F (M2 8 128) .f32) := do
  let r ← ld2 arg10 rs 0 (rows n) 128 ⟨hrs, by decide⟩ ⟨by simp [rows], by decide⟩
  let cs ← loop 10 fun t => do
    let x ← ld2 arg8 rs (128 * t.val) (rows n) 128 ⟨hrs, by omega⟩ ⟨by simp [rows], by decide⟩
    let c := mulf (mulf x r) (broadcastTo (M2 (rows n) 128) (inv t.castSucc) (bc2 ⟨.inl rfl, .inr rfl⟩))
    st3b arg5 harg5 rs (128 * t.val) (rows n) 128 ⟨by decide, hrs, by omega⟩ ⟨by decide, by simp [rows], by decide⟩ ⟨h2, ⟨4 * (n + 1), by simp only [rows]; omega⟩⟩
      (shapeCast (M3 1 (rows n) 128) (truncf .bf16 c (by decide)) sc23)
    pure c
  let x ← ld2 arg8 rs 1280 (rows n) 128 ⟨hrs, by decide⟩ ⟨by simp [rows], by decide⟩
  let c := mulf (mulf x r) (broadcastTo (M2 (rows n) 128) (inv 10) (bc2 ⟨.inl rfl, .inr rfl⟩))
  st3b arg5 harg5 rs 1280 (rows n) 64 ⟨by decide, hrs, by decide⟩ ⟨by decide, by simp [rows], by decide⟩ ⟨h2, ⟨4 * (n + 1), by simp only [rows]; omega⟩⟩
    (shapeCast (M3 1 (rows n) 64) (truncf .bf16 (extractStridedSlice (M2 (rows n) 64) ![0, 0] c (sl2 ⟨by omega, by decide⟩)) (by decide)) sc23)
  let all : Fin 11 → Vec F (M2 (rows n) 128) .f32 := ext cs c
  st2 arg10 rs 0 (rows n) 128 ⟨hrs, by decide⟩ ⟨by simp [rows], by decide⟩
    (lanes n (shapeCast (M2 (rows n) 1) (multiReduction .maximumf [1] (M1 (rows n)) (fold maximumf 10 all) 0xFF800000#32 red1 (.inl rfl) rfl) sc1c))
  pure fun t => foldRows maximumf n (all t)

end Chunk

/-- Seven chunks of 160 rows and one of 80, their partial column results combined by `op`. -/
def chunks (op : Vec F (M2 8 128) .f32 → Vec F (M2 8 128) .f32 → Vec F (M2 8 128) .f32)
    (f : (n rs : ℕ) → rs + rows n ≤ 1200 → 2 ∣ rs → Pr F (Fin 11 → Vec F (M2 8 128) .f32)) : Pr F (Fin 11 → Vec F (M2 8 128) .f32) := do
  let ps ← loop 7 fun k => f 19 (160 * k.val) (by simp [rows]; omega) (by omega)
  let q ← f 9 1120 (by decide) (by decide)
  pure fun t => fold op 7 (ext (fun k => ps k t) (q t))

section Out

def colMax (v : Vec F (M2 8 128) .f32) : Vec F (M2 1 128) .f32 :=
  shapeCast (M2 1 128) (multiReduction .maximumf [0] (M1 128) v 0xFF800000#32 red0 (.inl rfl) rfl) sc12
def colInv (v : Vec F (M2 8 128) .f32) : Vec F (M2 1 128) .f32 :=
  divf (broadcast (M2 1 128) (Scalar.ofBits .f32 0x3F800000#32))
    (shapeCast (M2 1 128) (multiReduction .add [0] (M1 128) v 0x00000000#32 red0 (.inl rfl) rfl) sc12)

/-- The columns' maxima into the point's own row. -/
def colOut (i : grid0.Coords) (hi : pt i + 1 ≤ 16) (arg12 : Memref sig .tc .vmem (M3 16 1 1344) .f32) (cols : Fin 11 → Vec F (M2 8 128) .f32) : Pr F PUnit := do
  let _ ← loop 10 fun t =>
    st3 arg12 (pt i) 0 (128 * t.val) 1 1 128 ⟨hi, by decide, by omega⟩ (by decide) (shapeCast (M3 1 1 128) (colMax (cols t.castSucc)) sc23)
  st3 arg12 (pt i) 0 1280 1 1 64 ⟨hi, by decide, by decide⟩ (by decide)
    (shapeCast (M3 1 1 64) (extractStridedSlice (M2 1 64) ![0, 0] (colMax (cols 10)) (sl2 (by decide))) sc23)

def diag : IVec (M2 128 128) 1 := cmpi .eq (iota .tc (M2 128 128) 32 [0] (by decide)) (iota .tc (M2 128 128) 32 [1] (by decide))

/-- The diagonal of a block as a row. -/
def onDiag (w : ℕ) (d : IVec (M2 w 128) 1) (v : Vec F (M2 w 128) .f32) : Vec F (M2 1 128) .f32 :=
  shapeCast (M2 1 128) (multiReduction .add [0] (M1 128) (select d v (broadcast (M2 w 128) (Scalar.ofBits .f32 0x00000000#32)))
    0x00000000#32 red0 (.inl rfl) rfl) sc12

/-- The rows' maxima into the point's own row. -/
def rowOut (i : grid0.Coords) (hi : pt i + 1 ≤ 16) (arg10 : Memref sig .tc .vmem (M2 1200 128) .f32) (arg11 : Memref sig .tc .vmem (M3 16 1 1200) .f32) : Pr F PUnit := do
  let _ ← loop 9 fun t => do
    let v ← ld2 arg10 (128 * t.val) 0 128 128 ⟨by omega, by decide⟩ (by decide)
    st3 arg11 (pt i) 0 (128 * t.val) 1 1 128 ⟨hi, by decide, by omega⟩ (by decide) (shapeCast (M3 1 1 128) (onDiag 128 diag v) sc23)
  let v ← ld2 arg10 1152 0 48 128 (by decide) (by decide)
  st3 arg11 (pt i) 0 1152 1 1 48 ⟨hi, by decide, by decide⟩ (by decide)
    (shapeCast (M3 1 1 48) (extractStridedSlice (M2 1 48) ![0, 0]
      (onDiag 48 (extractStridedSlice (M2 48 128) ![0, 0] diag (sl2 (by decide))) v) (sl2 (by decide))) sc23)

/-- At the last point, both scratch buffers' rows into the results. -/
def tail (arg6 : Memref sig .tc .vmem (M2 16 1200) .f32) (arg7 : Memref sig .tc .vmem (M2 16 1344) .f32)
    (arg11 : Memref sig .tc .vmem (M3 16 1 1200) .f32) (arg12 : Memref sig .tc .vmem (M3 16 1 1344) .f32) : Pr F PUnit := do
  let _ ← loop 16 fun r => do
    let x ← ld3 arg11 r.val 0 0 1 1 1200 ⟨by omega, by decide, by decide⟩ (by decide)
    st2 arg6 r.val 0 1 1200 ⟨by omega, by decide⟩ (by decide) (shapeCast (M2 1 1200) x sc32)
    let y ← ld3 arg12 r.val 0 0 1 1 1344 ⟨by omega, by decide, by decide⟩ (by decide)
    st2 arg7 r.val 0 1 1344 ⟨by omega, by decide⟩ (by decide) (shapeCast (M2 1 1344) y sc32)
  pure ⟨⟩

end Out

/-- The body. -/
def body (i : grid0.Coords) (hb : base8 i + 8 ≤ 16) (hi : pt i + 1 ≤ 16)
    (arg1 : Memref sig .tc .vmem (M2 16 1200) .f32) (arg2 : Memref sig .tc .vmem (M2 16 1344) .f32)
    (arg3 : Memref sig .tc .vmem (M3 1 1200 256) .fp8e4m3) (arg4 : Memref sig .tc .vmem (M3 1 1344 256) .fp8e4m3)
    (arg5 : Memref sig .tc .vmem (M3 1 1200 1344) .bf16) (harg5 : arg5.IsWhole)
    (arg6 : Memref sig .tc .vmem (M2 16 1200) .f32) (arg7 : Memref sig .tc .vmem (M2 16 1344) .f32)
    (arg8 : Memref sig .tc .vmem (M2 1200 1408) .f32) (arg9 arg10 : Memref sig .tc .vmem (M2 1200 128) .f32)
    (arg11 : Memref sig .tc .vmem (M3 16 1 1200) .f32) (arg12 : Memref sig .tc .vmem (M3 16 1 1344) .f32) : Pr F PUnit := do
  rowScales i hb arg1 arg9
  let cs ← colScales i hb arg2
  let m ← chunks maximumf fun n rs h _ => pass1 n rs h arg3 arg4 arg8 arg9 arg10 cs
  let sh : Fin 11 → Vec F (M2 1 128) .f32 := fun t => colMax (m t)
  let s ← chunks addf fun n rs h _ => pass2 n rs h arg8 arg10 sh
  let inv : Fin 11 → Vec F (M2 1 128) .f32 := fun t => colInv (s t)
  let q ← chunks maximumf fun n rs h h2 => pass3 n rs h arg5 harg5 arg8 arg10 h2 inv
  colOut i hi arg12 q
  rowOut i hi arg10 arg11
  if h : k0_cond1 i = 1#1 then tail arg6 arg7 arg11 arg12 else pure ⟨⟩
  pure ⟨⟩

end Cert.KernelIdeal.Own
-- ==== Proof.Tr.lean ====
module

public import proofs.«01_k».proof.Proof.Struct
public import proofs.«01_k».proof.Proof.Gen.KernelIdeal
public import Idealize.ShloMosaic.Lib.VecWindow
public import Idealize.ShloMosaic.Lib.Pipeline.TableIdle

/-!
A small program logic for the kernel's body: the twelve buffers hold twelve vectors, a load returns a window of one of them and a
store puts a window into one of them.
-/

@[expose] public section

noncomputable section

namespace Cert.KernelIdeal.Own

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen

variable [Facts]

local notation "𝕄" => MT nD τ sig Unit (Elt Ideal) ℕ (UR sig nD τ) ℕ

/-- The body's buffers. -/
structure Bufs where
  arg1 : Memref sig .tc .vmem (M2 16 1200) .f32
  arg2 : Memref sig .tc .vmem (M2 16 1344) .f32
  arg3 : Memref sig .tc .vmem (M3 1 1200 256) .fp8e4m3
  arg4 : Memref sig .tc .vmem (M3 1 1344 256) .fp8e4m3
  arg5 : Memref sig .tc .vmem (M3 1 1200 1344) .bf16
  arg6 : Memref sig .tc .vmem (M2 16 1200) .f32
  arg7 : Memref sig .tc .vmem (M2 16 1344) .f32
  arg8 : Memref sig .tc .vmem (M2 1200 1408) .f32
  arg9 : Memref sig .tc .vmem (M2 1200 128) .f32
  arg10 : Memref sig .tc .vmem (M2 1200 128) .f32
  arg11 : Memref sig .tc .vmem (M3 16 1 1200) .f32
  arg12 : Memref sig .tc .vmem (M3 16 1 1344) .f32

/-- What they hold. -/
structure St where
  s1 : Vec Ideal (M2 16 1200) .f32
  s2 : Vec Ideal (M2 16 1344) .f32
  s3 : Vec Ideal (M3 1 1200 256) .fp8e4m3
  s4 : Vec Ideal (M3 1 1344 256) .fp8e4m3
  s5 : Vec Ideal (M3 1 1200 1344) .bf16
  s6 : Vec Ideal (M2 16 1200) .f32
  s7 : Vec Ideal (M2 16 1344) .f32
  s8 : Vec Ideal (M2 1200 1408) .f32
  s9 : Vec Ideal (M2 1200 128) .f32
  s10 : Vec Ideal (M2 1200 128) .f32
  s11 : Vec Ideal (M3 16 1 1200) .f32
  s12 : Vec Ideal (M3 16 1 1344) .f32

variable (c : Dev nD) (A : Bufs)

/-- The core holds the twelve buffers at the twelve vectors. -/
def Held (s : St) : sProp 𝕄 :=
  iprop(owns (c : Thread nD τ) A.arg1 fullShare s.s1 ∗ owns (c : Thread nD τ) A.arg2 fullShare s.s2 ∗ owns (c : Thread nD τ) A.arg3 fullShare s.s3
    ∗ owns (c : Thread nD τ) A.arg4 fullShare s.s4 ∗ owns (c : Thread nD τ) A.arg5 fullShare s.s5 ∗ owns (c : Thread nD τ) A.arg6 fullShare s.s6
    ∗ owns (c : Thread nD τ) A.arg7 fullShare s.s7 ∗ owns (c : Thread nD τ) A.arg8 fullShare s.s8 ∗ owns (c : Thread nD τ) A.arg9 fullShare s.s9
    ∗ owns (c : Thread nD τ) A.arg10 fullShare s.s10 ∗ owns (c : Thread nD τ) A.arg11 fullShare s.s11 ∗ owns (c : Thread nD τ) A.arg12 fullShare s.s12)

/-- From the vectors `s`, the program `p` runs to some result and vectors of which `Q` holds. -/
def Tr {α : Type} (p : Pr Ideal α) (s : St) (Q : α → St → Prop) : Prop :=
  ∀ (E : Set ℕ) (R : sProp 𝕄) (k : α → Pr Ideal PUnit) (K : PUnit → sProp 𝕄),
    (∀ x s', Q x s' → iprop(Held c A s' ∗ R) ⊢ wp frame (wpE (defs₀ (F := Ideal)) Variants.none c none) E (k x) K) →
    iprop(Held c A s ∗ R) ⊢ wp frame (wpE (defs₀ (F := Ideal)) Variants.none c none) E (p.bind k) K

variable {c A}

theorem Tr.pure {α : Type} {x : α} {s : St} {Q : α → St → Prop} (h : Q x s) : Tr c A (Pure.pure x : Pr Ideal α) s Q :=
  fun E R k K hk => hk x s h

theorem bind_assoc' {α β γ : Type} (p : Pr Ideal α) (f : α → Pr Ideal β) (g : β → Pr Ideal γ) :
    (p.bind f).bind g = p.bind fun x => (f x).bind g := by
  induction p with
  | ret x => rfl
  | op e k ih => exact congrArg (Prog.op e) (funext fun x => ih x)

theorem Tr.bind {α β : Type} {p : Pr Ideal α} {f : α → Pr Ideal β} {s : St} {P : α → St → Prop} {Q : β → St → Prop}
    (hp : Tr c A p s P) (hf : ∀ x s', P x s' → Tr c A (f x) s' Q) : Tr c A (p >>= f) s Q := fun E R k K hk => by
  show _ ⊢ wp frame _ E ((p.bind f).bind k) K
  rw [bind_assoc']
  exact hp E R (fun x => (f x).bind k) K fun x s' h => hf x s' h E R k K hk

theorem Tr.mono {α : Type} {p : Pr Ideal α} {s : St} {P Q : α → St → Prop} (hp : Tr c A p s P) (h : ∀ x s', P x s' → Q x s') :
    Tr c A p s Q := fun E R k K hk => hp E R k K fun x s' hx => hk x s' (h x s' hx)

/-- A buffer of the twelve taken out, with how the rest goes on with it. -/
structure Slot (c : Dev nD) (A : Bufs) {sh : Shape} {e : EltTy} (m : Memref sig .tc .vmem sh e) (get : St → (sh.Idx → Elt Ideal e)) (set : St → (sh.Idx → Elt Ideal e) → St) : Prop where
  same : ∀ s, set s (get s) = s
  out : ∀ s, Held c A s ⊢ iprop(owns (c : Thread nD τ) m fullShare (get s) ∗ ∀ X, owns (c : Thread nD τ) m fullShare X -∗ Held c A (set s X))

theorem Slot.load {sh : Shape} {e : EltTy} {m : Memref sig .tc .vmem sh e} {get set} (S : Slot c A m get set) {s : St}
    (off size : Fin sh.rank → ℕ) (inb : ∀ a, off a + size a ≤ sh.size a) (hl) :
    Tr c A (Prog.lift (.load m (Rect.unit off size inb).toLoadRect hl)) s
      fun x s' => x = VecWindow.window (get s) off size inb ∧ s' = s := fun E R k K hk => by
  have h := hk (VecWindow.window (get s) off size inb) s ⟨rfl, rfl⟩
  have hr : (m.access (Rect.unit off size inb)).read (Elt Ideal) (m.view.rep (get s)) = VecWindow.window (get s) off size inb := by
    funext y; exact congrFun (View.read_rep m.view (get s)) ((Rect.unit off size inb).emb y)
  have hw := wp_load_rect (defs := defs₀ (F := Ideal)) (Γ := .empty) (m := m) (r := Rect.unit off size inb) (hl := hl) (k := k) (Q := K) Variants.none (c : Thread nD τ) none E
    (S := m.view.set) (q := fullShare) (f := m.view.rep (get s)) (m.view.set_slice_subset _)
  rw [hr] at hw
  have ho := S.out s
  rw [owns_eq_rep] at ho
  refine .trans (sep_mono_left ho) ?_
  iintro ⟨⟨H, Hs⟩, HR⟩
  iapply hw $$ H
  iintro H
  iapply h
  isplitr [HR]; swap; · iexact HR
  ihave H := Hs $$ %(get s)
  rw [owns_eq_rep, S.same]
  iapply H
  iexact H

theorem Slot.store {sh : Shape} {e : EltTy} {m : Memref sig .tc .vmem sh e} {get set} (S : Slot c A m get set) {s : St}
    (off size : Fin sh.rank → ℕ) (inb : ∀ a, off a + size a ≤ sh.size a) (w : (Rect.unit off size inb).shape.Idx → Elt Ideal e) (hx) (hm) :
    Tr c A (Prog.lift (.store m (Rect.unit off size inb) w Finset.univ hx hm)) s
      fun x s' => s' = set s (VecWindow.put (get s) off size w) := fun E R k K hk => by
  have h := hk ⟨⟩ _ rfl
  have hr : m.view.read (Elt Ideal) ((m.access (Rect.unit off size inb)).write (Elt Ideal) (m.view.rep (get s)) w Finset.univ)
      = VecWindow.put (get s) off size w := View.read_writes_rep_unit m.view (get s) inb w rfl
  have hw := wp_store (defs := defs₀ (F := Ideal)) (Γ := .empty) (m := m) (r := Rect.unit off size inb) (w := w) (Mk := Finset.univ) (hx := hx) (hm := hm) (k := k) (Q := K) Variants.none (c : Thread nD τ) none E
    (S := m.view.set) (f := m.view.rep (get s)) (m.view.set_slice_subset _)
  have ho := S.out s
  rw [owns_eq_rep] at ho
  refine .trans (sep_mono_left ho) ?_
  iintro ⟨⟨H, Hs⟩, HR⟩
  iapply hw $$ H
  iintro H
  iapply h
  isplitr [HR]; swap; · iexact HR
  iapply Hs
  unfold owns
  iexists _
  isplitr; · ipureintro; exact hr
  iexact H

section Focus

variable {T : Type} {P G : T → sProp 𝕄} {H Q : sProp 𝕄} {x : T}

theorem foc_last : P x ⊢ iprop(P x ∗ ∀ X, P X -∗ P X) := by
  iintro H; isplitl; · iexact H
  iintro %X H; iexact H
theorem foc_here : iprop(P x ∗ Q) ⊢ iprop(P x ∗ ∀ X, P X -∗ (P X ∗ Q)) := by
  iintro ⟨H, HQ⟩; isplitl [H]; · iexact H
  iintro %X H; isplitl [H]; · iexact H
  iexact HQ
theorem foc_there (h : H ⊢ iprop(P x ∗ ∀ X, P X -∗ G X)) : iprop(Q ∗ H) ⊢ iprop(P x ∗ ∀ X, P X -∗ (Q ∗ G X)) := by
  refine .trans (sep_mono_right h) ?_
  iintro ⟨HQ, H, HG⟩; isplitl [H]; · iexact H
  iintro %X H; isplitl [HQ]; · iexact HQ
  iapply HG; iexact H

end Focus

theorem slot1 : Slot c A A.arg1 St.s1 (fun s X => { s with s1 := X }) := ⟨fun _ => rfl, fun s => foc_here⟩
theorem slot2 : Slot c A A.arg2 St.s2 (fun s X => { s with s2 := X }) := ⟨fun _ => rfl, fun s => foc_there foc_here⟩
theorem slot3 : Slot c A A.arg3 St.s3 (fun s X => { s with s3 := X }) := ⟨fun _ => rfl, fun s => foc_there (foc_there foc_here)⟩
theorem slot4 : Slot c A A.arg4 St.s4 (fun s X => { s with s4 := X }) := ⟨fun _ => rfl, fun s => foc_there (foc_there (foc_there foc_here))⟩
theorem slot5 : Slot c A A.arg5 St.s5 (fun s X => { s with s5 := X }) :=
  ⟨fun _ => rfl, fun s => foc_there (foc_there (foc_there (foc_there foc_here)))⟩
theorem slot6 : Slot c A A.arg6 St.s6 (fun s X => { s with s6 := X }) :=
  ⟨fun _ => rfl, fun s => foc_there (foc_there (foc_there (foc_there (foc_there foc_here))))⟩
theorem slot7 : Slot c A A.arg7 St.s7 (fun s X => { s with s7 := X }) :=
  ⟨fun _ => rfl, fun s => foc_there (foc_there (foc_there (foc_there (foc_there (foc_there foc_here)))))⟩
theorem slot8 : Slot c A A.arg8 St.s8 (fun s X => { s with s8 := X }) :=
  ⟨fun _ => rfl, fun s => foc_there (foc_there (foc_there (foc_there (foc_there (foc_there (foc_there foc_here))))))⟩
theorem slot9 : Slot c A A.arg9 St.s9 (fun s X => { s with s9 := X }) :=
  ⟨fun _ => rfl, fun s => foc_there (foc_there (foc_there (foc_there (foc_there (foc_there (foc_there (foc_there foc_here)))))))⟩
theorem slot10 : Slot c A A.arg10 St.s10 (fun s X => { s with s10 := X }) :=
  ⟨fun _ => rfl, fun s => foc_there (foc_there (foc_there (foc_there (foc_there (foc_there (foc_there (foc_there (foc_there foc_here))))))))⟩
theorem slot11 : Slot c A A.arg11 St.s11 (fun s X => { s with s11 := X }) :=
  ⟨fun _ => rfl, fun s => foc_there (foc_there (foc_there (foc_there (foc_there (foc_there (foc_there (foc_there (foc_there (foc_there foc_here)))))))))⟩
theorem slot12 : Slot c A A.arg12 St.s12 (fun s X => { s with s12 := X }) :=
  ⟨fun _ => rfl, fun s => foc_there (foc_there (foc_there (foc_there (foc_there (foc_there (foc_there (foc_there (foc_there (foc_there (foc_there foc_last))))))))))⟩

/-- Steps that each keep an invariant and return what they should. -/
theorem Tr.loop {α : Type} : ∀ (n : ℕ) (f : Fin n → Pr Ideal α) (I : ℕ → St → Prop) (R : Fin n → α → Prop) (s : St), I 0 s →
    (∀ (i : Fin n) s, I i.val s → Tr c A (f i) s fun x s' => R i x ∧ I (i.val + 1) s') →
    Tr c A (loop n f) s fun xs s' => (∀ i, R i (xs i)) ∧ I n s'
  | 0, f, I, R, s, h0, hf => Tr.pure ⟨fun i => i.elim0, h0⟩
  | n + 1, f, I, R, s, h0, hf => by
    refine Tr.bind (hf 0 s h0) fun x s1 h1 => ?_
    refine Tr.bind (Tr.loop n (fun i => f i.succ) (fun t => I (t + 1)) (fun i => R i.succ) s1 h1.2 fun i s hi => hf i.succ s hi) fun xs s2 h2 => ?_
    exact Tr.pure ⟨fun i => Fin.cases h1.1 h2.1 i, h2.2⟩

/-- A loop that returns nothing. -/
theorem Tr.loop' (n : ℕ) (f : Fin n → Pr Ideal PUnit) (I : ℕ → St → Prop) (s : St) (h0 : I 0 s)
    (hf : ∀ (i : Fin n) s, I i.val s → Tr c A (f i) s fun _ s' => I (i.val + 1) s') : Tr c A (Own.loop n f) s fun _ s' => I n s' :=
  (Tr.loop n f I (fun _ _ => True) s h0 fun i s hi => (hf i s hi).mono fun _ _ h => ⟨trivial, h⟩).mono fun _ _ h => h.2

section Access

theorem Tr.ld2 {a b : ℕ} {e : EltTy} {m : Memref sig .tc .vmem (M2 a b) e} {get set} (S : Slot c A m get set) {s : St} {o p r w : ℕ} {h hp}
    (X : ℕ → ℕ → Elt Ideal e) (hX : ∀ z : (M2 a b).Idx, o ≤ (z 0).val → (z 0).val < o + r → p ≤ (z 1).val → (z 1).val < p + w → get s z = X (z 0).val (z 1).val) :
    Tr c A (Own.ld2 m o p r w h hp) s fun x s' => (∀ y : (M2 r w).Idx, x y = X (o + (y 0).val) (p + (y 1).val)) ∧ s' = s :=
  (S.load ![o, p] (M2 r w).size (in2 h) _).mono fun x s' hx => ⟨fun y => by
    have h0 : (y 0).val < r := (y 0).isLt
    have h1 : (y 1).val < w := (y 1).isLt
    rw [hx.1]
    have := hX ((Rect.unit (s := M2 a b) ![o, p] (M2 r w).size (in2 h)).emb y) (by show o ≤ o + 1 * (y 0).val; omega) (by show o + 1 * (y 0).val < _; omega)
      (by show p ≤ p + 1 * (y 1).val; omega) (by show p + 1 * (y 1).val < _; omega)
    refine this.trans ?_
    show X (o + 1 * (y 0).val) (p + 1 * (y 1).val) = _
    rw [Nat.one_mul, Nat.one_mul], hx.2⟩

theorem Tr.ld3 {a b d : ℕ} {e : EltTy} {m : Memref sig .tc .vmem (M3 a b d) e} {get set} (S : Slot c A m get set) {s : St} {o p q r w u : ℕ} {h hp}
    (X : ℕ → ℕ → ℕ → Elt Ideal e) (hX : ∀ z : (M3 a b d).Idx, o ≤ (z 0).val → (z 0).val < o + r → p ≤ (z 1).val → (z 1).val < p + w →
      q ≤ (z 2).val → (z 2).val < q + u → get s z = X (z 0).val (z 1).val (z 2).val) :
    Tr c A (Own.ld3 m o p q r w u h hp) s fun x s' => (∀ y : (M3 r w u).Idx, x y = X (o + (y 0).val) (p + (y 1).val) (q + (y 2).val)) ∧ s' = s :=
  (S.load ![o, p, q] (M3 r w u).size (in3 h) _).mono fun x s' hx => ⟨fun y => by
    have h0 : (y 0).val < r := (y 0).isLt
    have h1 : (y 1).val < w := (y 1).isLt
    have h2 : (y 2).val < u := (y 2).isLt
    rw [hx.1]
    have := hX ((Rect.unit (s := M3 a b d) ![o, p, q] (M3 r w u).size (in3 h)).emb y) (by show o ≤ o + 1 * (y 0).val; omega) (by show o + 1 * (y 0).val < _; omega)
      (by show p ≤ p + 1 * (y 1).val; omega) (by show p + 1 * (y 1).val < _; omega) (by show q ≤ q + 1 * (y 2).val; omega) (by show q + 1 * (y 2).val < _; omega)
    refine this.trans ?_
    show X (o + 1 * (y 0).val) (p + 1 * (y 1).val) (q + 1 * (y 2).val) = _
    rw [Nat.one_mul, Nat.one_mul, Nat.one_mul], hx.2⟩

/-- Inside a window of two axes; of three. -/
abbrev In2 {a b : ℕ} (o p r w : ℕ) (z : (M2 a b).Idx) : Prop := (o ≤ (z 0).val ∧ (z 0).val < o + r) ∧ (p ≤ (z 1).val ∧ (z 1).val < p + w)
abbrev In3 {a b d : ℕ} (o p q r w u : ℕ) (z : (M3 a b d).Idx) : Prop :=
  (o ≤ (z 0).val ∧ (z 0).val < o + r) ∧ (p ≤ (z 1).val ∧ (z 1).val < p + w) ∧ (q ≤ (z 2).val ∧ (z 2).val < q + u)

theorem put2 {a b : ℕ} {α : Type} (x : (M2 a b).Idx → α) {o p r w : ℕ} (v : (M2 r w).Idx → α) (X : ℕ → ℕ → α)
    (hv : ∀ y, v y = X (o + (y 0).val) (p + (y 1).val)) (z : (M2 a b).Idx) :
    VecWindow.put x ![o, p] (M2 r w).size v z = if In2 o p r w z then X (z 0).val (z 1).val else x z := by
  unfold VecWindow.put
  have key : (∀ i : Fin 2, (![o, p] : Fin 2 → ℕ) i ≤ (z i).val ∧ (z i).val < (![o, p] : Fin 2 → ℕ) i + (M2 r w).size i) ↔ In2 o p r w z :=
    ⟨fun h => ⟨h 0, h 1⟩, fun h i => by match i with | 0 => exact h.1 | 1 => exact h.2⟩
  by_cases h : In2 o p r w z
  · rw [if_pos h, dif_pos (key.mpr h), hv]
    have e0 : o + ((z 0).val - o) = (z 0).val := by have := h.1.1; omega
    have e1 : p + ((z 1).val - p) = (z 1).val := by have := h.2.1; omega
    show X (o + ((z 0).val - o)) (p + ((z 1).val - p)) = _
    rw [e0, e1]
  · rw [if_neg h, dif_neg fun hh => h (key.mp hh)]

theorem put3 {a b d : ℕ} {α : Type} (x : (M3 a b d).Idx → α) {o p q r w u : ℕ} (v : (M3 r w u).Idx → α) (X : ℕ → ℕ → ℕ → α)
    (hv : ∀ y, v y = X (o + (y 0).val) (p + (y 1).val) (q + (y 2).val)) (z : (M3 a b d).Idx) :
    VecWindow.put x ![o, p, q] (M3 r w u).size v z = if In3 o p q r w u z then X (z 0).val (z 1).val (z 2).val else x z := by
  unfold VecWindow.put
  have key : (∀ i : Fin 3, (![o, p, q] : Fin 3 → ℕ) i ≤ (z i).val ∧ (z i).val < (![o, p, q] : Fin 3 → ℕ) i + (M3 r w u).size i) ↔ In3 o p q r w u z :=
    ⟨fun h => ⟨h 0, h 1, h 2⟩, fun h i => by match i with | 0 => exact h.1 | 1 => exact h.2.1 | 2 => exact h.2.2⟩
  by_cases h : In3 o p q r w u z
  · rw [if_pos h, dif_pos (key.mpr h), hv]
    have e0 : o + ((z 0).val - o) = (z 0).val := by have := h.1.1; omega
    have e1 : p + ((z 1).val - p) = (z 1).val := by have := h.2.1.1; omega
    have e2 : q + ((z 2).val - q) = (z 2).val := by have := h.2.2.1; omega
    show X (o + ((z 0).val - o)) (p + ((z 1).val - p)) (q + ((z 2).val - q)) = _
    rw [e0, e1, e2]
  · rw [if_neg h, dif_neg fun hh => h (key.mp hh)]

theorem Tr.st2 {a b : ℕ} {m : Memref sig .tc .vmem (M2 a b) .f32} {get set} (S : Slot c A m get set) {s : St} {o p r w : ℕ} {h hp}
    {v : Vec Ideal (M2 r w) .f32} (X : ℕ → ℕ → EReal) (hv : ∀ y, v y = X (o + (y 0).val) (p + (y 1).val)) :
    Tr c A (Own.st2 m o p r w h hp v) s fun _ s' => ∃ x, s' = set s x ∧ ∀ z, x z = if In2 o p r w z then X (z 0).val (z 1).val else get s z :=
  Tr.bind (S.load ![o, p] (M2 r w).size (in2 h) _) fun _ s1 h1 =>
    (S.store ![o, p] (M2 r w).size (in2 h) v _ _).mono fun _ s2 h2 => ⟨_, by rw [h2, h1.2], fun z => put2 (get s) v X hv z⟩

theorem Tr.st3 {a b d : ℕ} {m : Memref sig .tc .vmem (M3 a b d) .f32} {get set} (S : Slot c A m get set) {s : St} {o p q r w u : ℕ} {h hp}
    {v : Vec Ideal (M3 r w u) .f32} (X : ℕ → ℕ → ℕ → EReal) (hv : ∀ y, v y = X (o + (y 0).val) (p + (y 1).val) (q + (y 2).val)) :
    Tr c A (Own.st3 m o p q r w u h hp v) s fun _ s' => ∃ x, s' = set s x ∧ ∀ z, x z = if In3 o p q r w u z then X (z 0).val (z 1).val (z 2).val else get s z :=
  Tr.bind (S.load ![o, p, q] (M3 r w u).size (in3 h) _) fun _ s1 h1 =>
    (S.store ![o, p, q] (M3 r w u).size (in3 h) v _ _).mono fun _ s2 h2 => ⟨_, by rw [h2, h1.2], fun z => put3 (get s) v X hv z⟩

theorem Tr.st3b {b d : ℕ} {m : Memref sig .tc .vmem (M3 1 b d) .bf16} {hm : m.IsWhole} {get set} (S : Slot c A m get set) {s : St} {p q w u : ℕ} {h hp hk}
    {v : Vec Ideal (M3 1 w u) .bf16} (X : ℕ → ℕ → ℕ → EReal) (hv : ∀ y, v y = X (0 + (y 0).val) (p + (y 1).val) (q + (y 2).val)) :
    Tr c A (Own.st3b m hm p q w u h hp hk v) s fun _ s' => ∃ x, s' = set s x ∧ ∀ z, x z = if In3 0 p q 1 w u z then X (z 0).val (z 1).val (z 2).val else get s z :=
  Tr.bind (S.load ![0, p, q] (M3 1 w u).size (in3 h) _) fun _ s1 h1 =>
    (S.store ![0, p, q] (M3 1 w u).size (in3 h) v _ _).mono fun _ s2 h2 => ⟨_, by rw [h2, h1.2], fun z => put3 (get s) v X hv z⟩

end Access

end Cert.KernelIdeal.Own
-- ==== Proof.Ops.lean ====
module

public import proofs.«01_k».proof.Proof.Struct
public import Idealize.ShloMosaic.Lib.ValueLayout
public import Idealize.ShloMosaic.Lib.ValueLayoutCasts
public import Idealize.ShloMosaic.Lib.MatmulPlain
public import Idealize.ShloMosaic.Lib.Pipeline.Value
public import Idealize.ShloMosaic.PureOps.Ideal.Laws

/-!
The body's vector operations read at an index.
-/

@[expose] public section

noncomputable section

namespace Cert.KernelIdeal.Own

open Idealize.ShloMosaic Idealize.ShloMosaic.ValueIdx
open Cert.KernelIdeal

variable {α : Type}

theorem cast_self {s : Shape} (x : s.Idx → α) (h) (y : s.Idx) : shapeCast s x h y = x y := shapeCast_apply x h y y rfl

theorem cast32 {a b : ℕ} (x : (M3 1 a b).Idx → α) (h) (y : (M2 a b).Idx) : shapeCast (M2 a b) x h y = x (ix3 0 (y 0) (y 1)) := by
  rw [eq_ix2 y]; exact shapeCast_1ab_ab_apply x h _ _
theorem cast23 {a b : ℕ} (x : (M2 a b).Idx → α) (h) (y : (M3 1 a b).Idx) : shapeCast (M3 1 a b) x h y = x (ix2 (y 1) (y 2)) := by
  rw [eq_ix3 y, Fin.eq_zero (y 0)]; exact shapeCast_ab_1ab_apply x h 0 _ _
theorem cast12 {a : ℕ} (x : (M1 a).Idx → α) (h) (y : (M2 1 a).Idx) : shapeCast (M2 1 a) x h y = x (ix1 (y 1)) := by
  rw [eq_ix2 y, Fin.eq_zero (y 0)]; exact shapeCast_a_1a_apply x h 0 _
theorem cast1c {a : ℕ} (x : (M1 a).Idx → α) (h) (y : (M2 a 1).Idx) : shapeCast (M2 a 1) x h y = x (ix1 (y 0)) := by
  rw [eq_ix2 y]; exact shapeCast_a_a1_apply x h _ _

theorem bcRow {a b : ℕ} (x : (M2 1 b).Idx → α) (h) (y : (M2 a b).Idx) : broadcastTo (M2 a b) x h y = x (ix2 0 (y 1)) :=
  broadcastTo_apply x h y _ fun i => by
    match i with
    | 0 => rfl
    | 1 =>
      show (y 1).val = if b = 1 then 0 else (y 1).val
      have : (y 1).val < b := (y 1).isLt
      split_ifs <;> omega
theorem bcCol {a b : ℕ} (x : (M2 a 1).Idx → α) (h) (y : (M2 a b).Idx) : broadcastTo (M2 a b) x h y = x (ix2 (y 0) 0) :=
  broadcastTo_apply x h y _ fun i => by
    match i with
    | 1 => rfl
    | 0 =>
      show (y 0).val = if a = 1 then 0 else (y 0).val
      have : (y 0).val < a := (y 0).isLt
      split_ifs <;> omega

theorem slice2 {a b r w o p : ℕ} (x : (M2 a b).Idx → α) (h : (M2 a b).Slices ![o, p] (M2 r w)) (y : (M2 r w).Idx) (z : (M2 a b).Idx)
    (h0 : (z 0).val = o + (y 0).val) (h1 : (z 1).val = p + (y 1).val) : extractStridedSlice (M2 r w) ![o, p] x h y = x z :=
  extractStridedSlice_apply _ x h y z fun i => by
    match i with
    | 0 => exact h0
    | 1 => exact h1

theorem slice2' {a b r w o p : ℕ} (x : (M2 a b).Idx → α) (h : (M2 a b).Slices ![o, p] (M2 r w)) (X : ℕ → ℕ → α)
    (hX : ∀ z, x z = X (z 0).val (z 1).val) (y : (M2 r w).Idx) :
    extractStridedSlice (M2 r w) ![o, p] x h y = X (o + (y 0).val) (p + (y 1).val) := by
  have h0 : o + (y 0).val < a := lt_of_lt_of_le (Nat.add_lt_add_left (y 0).isLt o) (h.2 0)
  have h1 : p + (y 1).val < b := lt_of_lt_of_le (Nat.add_lt_add_left (y 1).isLt p) (h.2 1)
  rw [slice2 x h y (ix2 ⟨_, h0⟩ ⟨_, h1⟩) rfl rfl, hX]; rfl

theorem cat_left {r a b w : ℕ} (x : (M2 r a).Idx → α) (x' : (M2 r b).Idx → α) (h) (y : (M2 r w).Idx) (hy : (y 1).val < a) :
    concatenate (M2 r w) 1 [⟨M2 r a, x⟩, ⟨M2 r b, x'⟩] h y = x (ix2 (y 0) ⟨(y 1).val, hy⟩) :=
  concatenate_pair_apply_left (t := M2 r w) 1 x x' h y rfl _ fun i => by
    match i with
    | 0 => rfl
    | 1 => rfl

theorem transpose2 {a b : ℕ} (x : (M2 a b).Idx → α) (h) (y : (M2 b a).Idx) : transpose (M2 b a) [1, 0] x h y = x (ix2 (y 1) (y 0)) := by
  rw [eq_ix2 y]; exact transpose_ix2_apply x h _ _

theorem ofBits_zero : (Scalar.ofBits (F := Ideal) .f32 0x00000000#32 : EReal) = 0 := Ideal.ofBits_zero_f32
theorem ofBits_one : (Scalar.ofBits (F := Ideal) .f32 0x3F800000#32 : EReal) = 1 := by
  show Ideal.ofBits .f32 0x3F800000#32 = 1
  simp [Ideal.ofBits, Ideal.ieee]
  norm_cast
  norm_num
theorem ofBits_bot : (FloatOps.ofBits (F := Ideal) .f32 0xFF800000#32 : EReal) = ⊥ := by
  show Ideal.ofBits .f32 0xFF800000#32 = ⊥
  simp [Ideal.ofBits, Ideal.ieee]

theorem add0 {a b : ℕ} (x : FVec Ideal (M2 a b) .f32) (h : (M2 a b).Reduces [0] (M1 b)) (hf : FKind.Formats .f32)
    (hacc : (0x00000000#32 : BitVec 32) = FKind.add.neutral .f32 hf) (y : (M1 b).Idx) :
    multiReduction .add [0] (M1 b) x 0x00000000#32 h hf hacc y = ∑ k : Fin a, x (ix2 k (y 0)) := by
  rw [Ideal.multiReduction_add_single]
  refine Finset.sum_congr rfl fun k _ => congrArg x (funext fun i => Fin.ext ?_)
  match i with
  | 0 => rfl
  | 1 => rfl
theorem add1 {a b : ℕ} (x : FVec Ideal (M2 a b) .f32) (h : (M2 a b).Reduces [1] (M1 a)) (hf : FKind.Formats .f32)
    (hacc : (0x00000000#32 : BitVec 32) = FKind.add.neutral .f32 hf) (y : (M1 a).Idx) :
    multiReduction .add [1] (M1 a) x 0x00000000#32 h hf hacc y = ∑ k : Fin b, x (ix2 (y 0) k) := by
  rw [Ideal.multiReduction_add_single]
  refine Finset.sum_congr rfl fun k _ => congrArg x (funext fun i => Fin.ext ?_)
  match i with
  | 0 => rfl
  | 1 => rfl
theorem max0 {a b : ℕ} (x : FVec Ideal (M2 a b) .f32) (h : (M2 a b).Reduces [0] (M1 b)) (hf : FKind.Formats .f32)
    (hacc : (0xFF800000#32 : BitVec 32) = FKind.maximumf.neutral .f32 hf) (y : (M1 b).Idx) :
    multiReduction .maximumf [0] (M1 b) x 0xFF800000#32 h hf hacc y = (Finset.univ : Finset (Fin a)).sup fun k => (x (ix2 k (y 0)) : EReal) := by
  rw [Ideal.multiReduction_maximumf_single, ofBits_bot]
  refine Finset.sup_congr rfl fun k _ => congrArg x (funext fun i => Fin.ext ?_)
  match i with
  | 0 => rfl
  | 1 => rfl
theorem max1 {a b : ℕ} (x : FVec Ideal (M2 a b) .f32) (h : (M2 a b).Reduces [1] (M1 a)) (hf : FKind.Formats .f32)
    (hacc : (0xFF800000#32 : BitVec 32) = FKind.maximumf.neutral .f32 hf) (y : (M1 a).Idx) :
    multiReduction .maximumf [1] (M1 a) x 0xFF800000#32 h hf hacc y = (Finset.univ : Finset (Fin b)).sup fun k => (x (ix2 (y 0) k) : EReal) := by
  rw [Ideal.multiReduction_maximumf_single, ofBits_bot]
  refine Finset.sup_congr rfl fun k _ => congrArg x (funext fun i => Fin.ext ?_)
  match i with
  | 0 => rfl
  | 1 => rfl

theorem select_of {s : Shape} (c : IVec s 1) (x y : s.Idx → α) (i : s.Idx) : select c x y i = if c i = 1#1 then x i else y i := by
  rcases BitVec.eq_zero_or_eq_one (c i) with h | h <;> simp [select_apply, Scalar.select, h]

variable [Facts]

theorem fold_apply {s : Shape} (op : Vec Ideal s .f32 → Vec Ideal s .f32 → Vec Ideal s .f32) (op' : EReal → EReal → EReal)
    (hop : ∀ x y i, op x y i = op' (x i) (y i)) : ∀ (n : ℕ) (f : Fin (n + 1) → Vec Ideal s .f32) (i : s.Idx), fold op n f i = fold op' n fun k => f k i
  | 0, f, i => rfl
  | n + 1, f, i => by
    show op (fold op n _) _ i = op' (fold op' n _) _
    rw [hop, fold_apply op op' hop n]

theorem foldRows_apply (op : Vec Ideal (M2 8 128) .f32 → Vec Ideal (M2 8 128) .f32 → Vec Ideal (M2 8 128) .f32) (op' : EReal → EReal → EReal)
    (hop : ∀ x y i, op x y i = op' (x i) (y i)) (n : ℕ) (x : Vec Ideal (M2 (rows n) 128) .f32) (X : ℕ → ℕ → EReal)
    (hx : ∀ y, x y = X (y 0).val (y 1).val) (y : (M2 8 128).Idx) :
    foldRows op n x y = fold op' n fun k => X (8 * k.val + (y 0).val) (y 1).val := by
  unfold foldRows
  rw [fold_apply op op' hop]
  congr 1; funext k
  rw [slice2' x _ X hx, Nat.zero_add]

theorem fold_congr {α : Type} (op : α → α → α) (n : ℕ) (f g : Fin (n + 1) → α) (h : ∀ i, f i = g i) : fold op n f = fold op n g := by
  rw [funext h]

theorem fold_max_le (z : EReal) : ∀ (n : ℕ) (f : Fin (n + 1) → EReal), fold max n f ≤ z ↔ ∀ i, f i ≤ z
  | 0, f => ⟨fun h i => by rw [Fin.eq_zero i]; exact h, fun h => h 0⟩
  | n + 1, f => by
    show max (fold max n fun i => f i.castSucc) (f (Fin.last (n + 1))) ≤ z ↔ _
    rw [max_le_iff, fold_max_le z n fun i => f i.castSucc]
    exact (Fin.forall_fin_succ' (P := fun i => f i ≤ z)).symm

theorem fold_add : ∀ (n : ℕ) (f : Fin (n + 1) → EReal), fold (· + ·) n f = ∑ i, f i
  | 0, f => by simp [fold]
  | n + 1, f => by
    show fold _ n (fun i => f i.castSucc) + f (Fin.last (n + 1)) = _
    rw [fold_add n fun i => f i.castSucc]
    exact (Fin.sum_univ_castSucc f).symm

theorem mask8_apply (i : grid0.Coords) (y : (M2 8 1).Idx) : mask8 i y = 1#1 ↔ base8 i + (y 0).val = (i 0).val := by
  have h0 : (y 0).val < 8 := (y 0).isLt
  have hi : (i 0).val < 16 := (i 0).isLt
  generalize hv : (i 0).val = v at hi
  generalize hw : (y 0).val = w at h0
  have : mask8 i y = IntOp.cmpi .eq (BitVec.ofNat 32 (0 * 8 + (y 0).val)) (Scalar.subi (BitVec.ofNat 32 (i 0).val) (Scalar.shli (Scalar.shrui (BitVec.ofNat 32 (i 0).val) 3#32) 3#32)) := rfl
  rw [this]
  unfold base8
  rw [hv, hw]
  interval_cases v <;> interval_cases w <;> decide

theorem pick_apply (i : grid0.Coords) (hi : base8 i ≤ (i 0).val ∧ (i 0).val < base8 i + 8) (w : ℕ) (x : Vec Ideal (M2 8 w) .f32) (X : ℕ → ℕ → EReal)
    (hx : ∀ y, x y = X (base8 i + (y 0).val) (y 1).val) (y : (M2 1 w).Idx) : pick (mask8 i) w x y = X (i 0).val (y 1).val := by
  unfold pick
  refine (cast12 _ _ _).trans ((add0 _ _ _ _ _).trans ?_)
  have hq : (i 0).val - base8 i < 8 := by omega
  rw [Finset.sum_eq_single ⟨(i 0).val - base8 i, hq⟩]
  · rw [select_of, bcCol, cast_self, if_pos ((mask8_apply i _).mpr (by show base8 i + ((i 0).val - base8 i) = _; omega)), hx]
    show X (base8 i + ((i 0).val - base8 i)) (y 1).val = _
    rw [Nat.add_sub_cancel' hi.1]
  · intro k _ hk
    rw [select_of, bcCol, cast_self, if_neg]
    · exact ofBits_zero
    · intro h
      have := (mask8_apply i _).mp h
      exact hk (Fin.ext (by show k.val = (i 0).val - base8 i; have h2 : base8 i + k.val = (i 0).val := this; omega))
  · intro h; exact absurd (Finset.mem_univ _) h

theorem base8_spec (i : grid0.Coords) : base8 i ≤ (i 0).val ∧ (i 0).val < base8 i + 8 := by
  have hi : (i 0).val < 16 := (i 0).isLt
  unfold base8
  generalize (i 0).val = v at hi
  interval_cases v <;> decide
theorem pt_eq (i : grid0.Coords) : pt i = (i 0).val := by
  have hi : (i 0).val < 16 := (i 0).isLt
  unfold pt
  generalize (i 0).val = v at hi
  interval_cases v <;> decide

theorem stand_apply (v : Vec Ideal (M2 1 128) .f32) (y : (M2 128 128).Idx) : stand v y = v (ix2 0 (y 0)) := by
  unfold stand
  rw [transpose2, bcRow, cast_self]

theorem dots_apply (n k : ℕ) (f0 : Vec Ideal (M2 (rows n) 256) .fp8e4m3) (f1 : Vec Ideal (M3 1 k 256) .fp8e4m3) (y : (M2 (rows n) k).Idx) :
    dots n k f0 f1 y = ∑ d : Fin 256, (f0 (ix2 (y 0) d) : EReal) * f1 (ix3 0 (y 1) d) := by
  unfold dots
  have := Ideal.matmul_transposedRhs_apply (φ₁ := .fp8e4m3) (φ₂ := .fp8e4m3) (M := rows n) (K := 256) (N := k) none f0 (shapeCast (M2 k 256) f1 sc32) (constant (M2 (rows n) k) .f32 0x00000000#32) (y 0) (y 1)
  refine (congrArg _ (eq_ix2 y)).trans (this.trans ?_)
  rw [show constant (F := Ideal) (M2 (rows n) k) .f32 0x00000000#32 (ix2 (y 0) (y 1)) = (0 : EReal) from ofBits_zero, zero_add]
  refine Finset.sum_congr rfl fun d _ => ?_
  rw [cast32]; rfl

theorem scaled_apply (n : ℕ) (a : Vec Ideal (M2 (rows n) 128) .f32) (c : Vec Ideal (M2 1 128) .f32) (v : Vec Ideal (M2 (rows n) 128) .f32) (y) :
    scaled n a c v y = (v y * a y * c (ix2 0 (y 1)) : EReal) := by
  show (v y * a y * broadcastTo (M2 (rows n) 128) c _ y : EReal) = _
  rw [bcRow]

theorem masked_apply (n : ℕ) (x : Vec Ideal (M2 (rows n) 128) .f32) (y : (M2 (rows n) 128).Idx) :
    masked n x y = if (y 1).val < 64 then x y else (⊥ : EReal) := by
  unfold masked
  have h1 : (y 1).val < 128 := (y 1).isLt
  rw [select_of, bcRow, cast_self]
  have e : cmpi .slt (iota .tc (M2 1 128) 32 [1] (by decide)) (broadcast (M2 1 128) 64#32) (ix2 0 (y 1)) = 1#1 ↔ (y 1).val < 64 := by
    have : cmpi .slt (iota .tc (M2 1 128) 32 [1] (by decide)) (broadcast (M2 1 128) 64#32) (ix2 0 (y 1))
      = IntOp.cmpi .slt (BitVec.ofNat 32 (0 * 128 + (y 1).val)) 64#32 := rfl
    rw [this]
    generalize (y 1).val = v at h1
    interval_cases v <;> decide
  simp only [e]
  rfl

theorem lanes_apply (n : ℕ) (v : Vec Ideal (M2 (rows n) 1) .f32) (y) : lanes n v y = v (ix2 (y 0) 0) := by
  unfold lanes
  rw [cast_self, bcCol, cast_self]

theorem diag_apply (y : (M2 128 128).Idx) : diag y = 1#1 ↔ (y 0).val = (y 1).val := by
  have h0 : (y 0).val < 128 := (y 0).isLt
  have h1 : (y 1).val < 128 := (y 1).isLt
  have : diag y = IntOp.cmpi .eq (BitVec.ofNat 32 (0 * 128 + (y 0).val)) (BitVec.ofNat 32 (0 * 128 + (y 1).val)) := rfl
  rw [this]
  generalize (y 0).val = v at h0
  generalize (y 1).val = w at h1
  simp only [IntOp.cmpi]
  by_cases h : v = w
  · subst h; simp
  · have : BitVec.ofNat 32 (0 * 128 + v) ≠ BitVec.ofNat 32 (0 * 128 + w) := fun e => h (by
      have := congrArg BitVec.toNat e
      simp only [BitVec.toNat_ofNat] at this
      omega)
    simp only [beq_eq_false_iff_ne.mpr this, h, iff_false]; decide

theorem onDiag_apply (w : ℕ) (d : IVec (M2 w 128) 1) (hd : ∀ y, d y = 1#1 ↔ (y 0).val = (y 1).val) (v : Vec Ideal (M2 w 128) .f32) (y : (M2 1 128).Idx)
    (hy : (y 1).val < w) : onDiag w d v y = v (ix2 ⟨(y 1).val, hy⟩ (y 1)) := by
  unfold onDiag
  refine (cast12 _ _ _).trans ((add0 _ _ _ _ _).trans ?_)
  rw [Finset.sum_eq_single ⟨(y 1).val, hy⟩]
  · rw [select_of, if_pos ((hd _).mpr rfl)]
  · intro k _ hk
    rw [select_of, if_neg]
    · exact ofBits_zero
    · intro h; exact hk (Fin.ext ((hd _).mp h))
  · intro h; exact absurd (Finset.mem_univ _) h

theorem colMax_apply (v : Vec Ideal (M2 8 128) .f32) (y : (M2 1 128).Idx) : colMax v y = (Finset.univ : Finset (Fin 8)).sup fun q => (v (ix2 q (y 1)) : EReal) := by
  unfold colMax
  exact (cast12 _ _ _).trans (max0 _ _ _ _ _)
theorem colInv_apply (v : Vec Ideal (M2 8 128) .f32) (y : (M2 1 128).Idx) : colInv v y = Ideal.div 1 (∑ q : Fin 8, (v (ix2 q (y 1)) : EReal)) := by
  unfold colInv
  show Ideal.div (Scalar.ofBits (F := Ideal) .f32 0x3F800000#32) _ = _
  rw [ofBits_one]
  exact congrArg (Ideal.div 1) ((cast12 _ _ _).trans (add0 _ _ _ _ _))

end Cert.KernelIdeal.Own
-- ==== Proof.Passes.lean ====
module

public import proofs.«01_k».proof.Proof.Tr
public import proofs.«01_k».proof.Proof.Ops

/-!
What the body's three passes leave, as functions of a table `X` of scores over 1200 rows and 1408 columns.
-/

@[expose] public section

noncomputable section

namespace Cert.KernelIdeal.Own

open Idealize.ShloMosaic Idealize.ShloMosaic.ValueIdx
open Cert.KernelIdeal

variable [Facts]

/-! ## The tables -/

/-- The scores: products of features times the two scales, and `-∞` in the lanes past the last column. -/
def scores (f0 f1 : ℕ → ℕ → EReal) (a b : ℕ → EReal) (r c : ℕ) : EReal :=
  if c < 1344 then (∑ k : Fin 256, f0 r k.val * f1 c k.val) * a r * b c else ⊥

variable (X : ℕ → ℕ → EReal)

/-- A row's maximum; a column's. -/
def rowTop (r : ℕ) : EReal := (Finset.range 1408).sup (X r)
def colTop (c : ℕ) : EReal := (Finset.range 1200).sup fun r => X r c
/-- The exponentials over the rows' maxima; over the columns'. -/
def rowExp (r c : ℕ) : EReal := Ideal.exp2 (X r c - rowTop X r)
def colExp (r c : ℕ) : EReal := Ideal.exp2 (X r c - colTop X c)
def bothExp (r c : ℕ) : EReal := rowExp X r c * colExp X r c
/-- The reciprocals of their sums. -/
def rowInv (r : ℕ) : EReal := Ideal.div 1 (∑ c ∈ Finset.range 1408, rowExp X r c)
def colInvs (c : ℕ) : EReal := Ideal.div 1 (∑ r ∈ Finset.range 1200, colExp X r c)
/-- The confidences. -/
def conf (r c : ℕ) : EReal := bothExp X r c * rowInv X r * colInvs X c

/-! ## Reductions by tiles -/

theorem row_max (f : ℕ → EReal) :
    ((Finset.univ : Finset (Fin 128)).sup fun l => fold max 10 fun t => f (128 * t.val + l.val)) = (Finset.range 1408).sup f := by
  refine eq_of_forall_ge_iff fun z => ?_
  simp only [Finset.sup_le_iff, fold_max_le, Finset.mem_univ, Finset.mem_range, true_imp_iff]
  constructor
  · intro h c hc
    have := h ⟨c % 128, Nat.mod_lt _ (by decide)⟩ ⟨c / 128, by omega⟩
    rwa [show 128 * (c / 128) + c % 128 = c from Nat.div_add_mod c 128] at this
  · intro h l t; exact h _ (by omega)

theorem col_max (g : ℕ → EReal) :
    ((Finset.univ : Finset (Fin 8)).sup fun q => fold max 7 (ext (fun k : Fin 7 => fold max 19 fun j => g (160 * k.val + (8 * j.val + q.val)))
      (fold max 9 fun j => g (1120 + (8 * j.val + q.val))))) = (Finset.range 1200).sup g := by
  refine eq_of_forall_ge_iff fun z => ?_
  simp only [Finset.sup_le_iff, fold_max_le, Finset.mem_univ, Finset.mem_range, true_imp_iff]
  constructor
  · intro h r hr
    by_cases h1 : r < 1120
    · have := h ⟨r % 8, Nat.mod_lt _ (by decide)⟩ ⟨r / 160, by omega⟩
      rw [ext, dif_pos (show r / 160 < 7 by omega), fold_max_le] at this
      have := this ⟨r % 160 / 8, by omega⟩
      rwa [show 160 * (r / 160) + (8 * (r % 160 / 8) + r % 8) = r by omega] at this
    · have := h ⟨r % 8, Nat.mod_lt _ (by decide)⟩ (Fin.last 7)
      rw [ext, dif_neg (show ¬ (Fin.last 7).val < 7 by decide), fold_max_le] at this
      have := this ⟨(r - 1120) / 8, by omega⟩
      rwa [show 1120 + (8 * ((r - 1120) / 8) + r % 8) = r by omega] at this
  · intro h q k
    unfold ext
    split_ifs
    · rw [fold_max_le]; intro j; exact h _ (by show 160 * k.val + _ < _; omega)
    · rw [fold_max_le]; intro j; exact h _ (by omega)

theorem sum_tiles (w : ℕ) (f : ℕ → EReal) : ∀ n : ℕ, (∑ l ∈ Finset.range w, ∑ t ∈ Finset.range n, f (w * t + l)) = ∑ c ∈ Finset.range (w * n), f c
  | 0 => by simp
  | n + 1 => by
    rw [Nat.mul_succ, Finset.sum_range_add, ← sum_tiles w f n, ← Finset.sum_add_distrib]
    exact Finset.sum_congr rfl fun l _ => Finset.sum_range_succ _ _

theorem row_sum (f : ℕ → EReal) :
    (∑ l : Fin 128, fold (· + ·) 10 fun t => f (128 * t.val + l.val)) = ∑ c ∈ Finset.range 1408, f c := by
  rw [show 1408 = 128 * 11 from rfl, ← sum_tiles 128 f 11, Finset.sum_range]
  refine Finset.sum_congr rfl fun l _ => ?_
  rw [fold_add, Finset.sum_range]

theorem col_sum (g : ℕ → EReal) :
    (∑ q : Fin 8, fold (· + ·) 7 (ext (fun k : Fin 7 => fold (· + ·) 19 fun j => g (160 * k.val + (8 * j.val + q.val)))
      (fold (· + ·) 9 fun j => g (1120 + (8 * j.val + q.val))))) = ∑ r ∈ Finset.range 1200, g r := by
  have chunk : ∀ n o : ℕ, (∑ q : Fin 8, fold (· + ·) n fun j => g (o + (8 * j.val + q.val))) = ∑ r ∈ Finset.range (8 * (n + 1)), g (o + r) := fun n o => by
    rw [← sum_tiles 8 (fun r => g (o + r)) (n + 1), Finset.sum_range]
    refine Finset.sum_congr rfl fun l _ => ?_
    rw [fold_add, Finset.sum_range]
  have cut : ∀ n : ℕ, (∑ k ∈ Finset.range n, ∑ r ∈ Finset.range 160, g (160 * k + r)) = ∑ r ∈ Finset.range (160 * n), g r := fun n => by
    induction n with
    | zero => simp
    | succ n ih => rw [Finset.sum_range_succ, ih, Nat.mul_succ, Finset.sum_range_add]
  have e : ∀ q : Fin 8, fold (· + ·) 7 (ext (fun k : Fin 7 => fold (· + ·) 19 fun j => g (160 * k.val + (8 * j.val + q.val)))
      (fold (· + ·) 9 fun j => g (1120 + (8 * j.val + q.val))))
      = (∑ k : Fin 7, fold (· + ·) 19 fun j => g (160 * k.val + (8 * j.val + q.val))) + fold (· + ·) 9 fun j => g (1120 + (8 * j.val + q.val)) := fun q => by
    rw [fold_add, Fin.sum_univ_castSucc]
    congr 1
  simp only [e]
  rw [Finset.sum_add_distrib, Finset.sum_comm, chunk 9 1120]
  simp only [chunk 19]
  rw [show (1200 : ℕ) = 160 * 7 + 80 from rfl, Finset.sum_range_add, ← cut 7]
  exact congrArg₂ _ (Finset.sum_range fun k => ∑ r ∈ Finset.range 160, g (160 * k + r)).symm rfl

/-! ## The rows' results -/

theorem rowMax_apply (n rs : ℕ) (all : Fin 11 → Vec Ideal (M2 (rows n) 128) .f32) (h : ∀ t y, all t y = X (rs + (y 0).val) (128 * t.val + (y 1).val))
    (h1 : _) (h2 : _) (y : (M2 (rows n) 128).Idx) :
    lanes (F := Ideal) n (shapeCast (M2 (rows n) 1) (multiReduction (F := Ideal) (φ := .f32) .maximumf [1] (M1 (rows n)) (fold (maximumf (F := Ideal)) 10 all) 0xFF800000#32 red1 h1 h2) sc1c) y
      = rowTop X (rs + (y 0).val) := by
  refine (lanes_apply n _ y).trans ((cast1c _ _ _).trans ((max1 _ _ _ _ _).trans ?_))
  rw [rowTop, ← row_max]
  refine Finset.sup_congr rfl fun l _ => ?_
  exact (fold_apply (maximumf (F := Ideal)) max (fun _ _ _ => rfl) _ _ _).trans (fold_congr _ _ _ _ fun t => h t _)

theorem rowInv_apply (n rs : ℕ) (all : Fin 11 → Vec Ideal (M2 (rows n) 128) .f32) (h : ∀ t y, all t y = rowExp X (rs + (y 0).val) (128 * t.val + (y 1).val))
    (h1 : _) (h2 : _) (y : (M2 (rows n) 128).Idx) :
    lanes (F := Ideal) n (divf (F := Ideal) (φ := .f32) (broadcast (M2 (rows n) 1) (Scalar.ofBits (F := Ideal) .f32 0x3F800000#32))
      (shapeCast (M2 (rows n) 1) (multiReduction (F := Ideal) (φ := .f32) .add [1] (M1 (rows n)) (fold (addf (F := Ideal)) 10 all) 0x00000000#32 red1 h1 h2) sc1c)) y
      = rowInv X (rs + (y 0).val) := by
  refine (lanes_apply n _ y).trans ?_
  show Ideal.div (Scalar.ofBits (F := Ideal) .f32 0x3F800000#32) _ = _
  rw [ofBits_one]
  refine congrArg (Ideal.div 1) ((cast1c _ _ _).trans ((add1 _ _ _ _ _).trans ?_))
  rw [← row_sum]
  refine Finset.sum_congr rfl fun l _ => ?_
  exact (fold_apply (addf (F := Ideal)) (· + ·) (fun _ _ _ => rfl) _ _ _).trans (fold_congr _ _ _ _ fun t => h t _)

/-! ## The columns' results -/

/-- What a pass returns of a table `G`: over a chunk, partial results by column. -/
def Part (op : EReal → EReal → EReal) (G : ℕ → ℕ → EReal) (n rs : ℕ) (x : Fin 11 → Vec Ideal (M2 8 128) .f32) : Prop :=
  ∀ t y, x t y = fold op n fun j => G (rs + (8 * j.val + (y 0).val)) (128 * t.val + (y 1).val)

/-- What the chunks together return of it. -/
def Whole (op : EReal → EReal → EReal) (G : ℕ → ℕ → EReal) (x : Fin 11 → Vec Ideal (M2 8 128) .f32) : Prop :=
  ∀ t y, x t y = fold op 7 (ext (fun k : Fin 7 => fold op 19 fun j => G (160 * k.val + (8 * j.val + (y 0).val)) (128 * t.val + (y 1).val))
    (fold op 9 fun j => G (1120 + (8 * j.val + (y 0).val)) (128 * t.val + (y 1).val)))

theorem part_of (op : Vec Ideal (M2 8 128) .f32 → Vec Ideal (M2 8 128) .f32 → Vec Ideal (M2 8 128) .f32) (op' : EReal → EReal → EReal)
    (hop : ∀ x y i, op x y i = op' (x i) (y i)) (G : ℕ → ℕ → EReal) (n rs : ℕ) (all : Fin 11 → Vec Ideal (M2 (rows n) 128) .f32)
    (h : ∀ t y, all t y = G (rs + (y 0).val) (128 * t.val + (y 1).val)) : Part op' G n rs fun t => foldRows op n (all t) :=
  fun t y => foldRows_apply op op' hop n (all t) (fun p q => G (rs + p) (128 * t.val + q)) (h t) y

theorem colMax_of {G : ℕ → ℕ → EReal} {x : Fin 11 → Vec Ideal (M2 8 128) .f32} (h : Whole max G x) (t : Fin 11) (y : (M2 1 128).Idx) :
    colMax (x t) y = colTop G (128 * t.val + (y 1).val) := by
  rw [colMax_apply, colTop, ← col_max]
  exact Finset.sup_congr rfl fun q _ => h t _

theorem colInv_of {x : Fin 11 → Vec Ideal (M2 8 128) .f32} (h : Whole (· + ·) (colExp X) x) (t : Fin 11) (y : (M2 1 128).Idx) :
    colInv (x t) y = colInvs X (128 * t.val + (y 1).val) := by
  rw [colInv_apply, colInvs, ← col_sum]
  exact congrArg (Ideal.div 1) (Finset.sum_congr rfl fun q _ => h t _)

variable {c : Dev nD} {A : Bufs}

/-- The chunks in turn, each keeping an invariant on how many rows are done. -/
theorem Tr.chunks (op : Vec Ideal (M2 8 128) .f32 → Vec Ideal (M2 8 128) .f32 → Vec Ideal (M2 8 128) .f32) (op' : EReal → EReal → EReal)
    (hop : ∀ x y i, op x y i = op' (x i) (y i)) (G : ℕ → ℕ → EReal)
    {f : (n rs : ℕ) → rs + rows n ≤ 1200 → 2 ∣ rs → Pr Ideal (Fin 11 → Vec Ideal (M2 8 128) .f32)} (I : ℕ → St → Prop) {s : St} (h0 : I 0 s)
    (hf : ∀ n rs h h2 s, I rs s → Tr c A (f n rs h h2) s fun x s' => Part op' G n rs x ∧ I (rs + rows n) s') :
    Tr c A (Own.chunks op f) s fun x s' => Whole op' G x ∧ I 1200 s' := by
  refine Tr.bind (Tr.loop 7 _ (fun k => I (160 * k)) (fun k => Part op' G 19 (160 * k.val)) s h0 fun i s hi => hf 19 (160 * i.val) _ _ s hi) fun ps s1 h1 => ?_
  refine Tr.bind (hf 9 1120 _ _ s1 h1.2) fun q s2 h2 => ?_
  refine Tr.pure ⟨fun t y => ?_, h2.2⟩
  refine (fold_apply op op' hop _ _ _).trans (fold_congr _ _ _ _ fun k => ?_)
  unfold ext
  split_ifs with hk
  · exact h1.1 ⟨k.val, hk⟩ t y
  · exact h2.1 t y

theorem ite_or {α : Type} {P Q R : Prop} [Decidable P] [Decidable Q] [Decidable R] {x x' y : α} (h : R ↔ P ∨ Q) (hx : Q → x = x') :
    (if P then x else if Q then x' else y) = if R then x else y := by
  by_cases hP : P
  · rw [if_pos hP, if_pos (h.mpr (Or.inl hP))]
  · by_cases hQ : Q
    · rw [if_neg hP, if_pos hQ, if_pos (h.mpr (Or.inr hQ)), hx hQ]
    · rw [if_neg hP, if_neg hQ, if_neg fun r => (h.mp r).elim hP hQ]

/-- Pass 1 on a chunk. -/
theorem pass1_spec {n rs : ℕ} (hrs : rs + rows n ≤ 1200) {cs : Fin 11 → Vec Ideal (M2 1 128) .f32} {s : St} {f0 f1 : ℕ → ℕ → EReal} {a b : ℕ → EReal}
    (h3 : ∀ z, s.s3 z = f0 (z 1).val (z 2).val) (h4 : ∀ z, s.s4 z = f1 (z 1).val (z 2).val) (h9 : ∀ z, s.s9 z = a (z 0).val)
    (hcs : ∀ t y, 128 * t.val + (y 1).val < 1344 → cs t y = b (128 * t.val + (y 1).val)) :
    Tr c A (pass1 n rs hrs A.arg3 A.arg4 A.arg8 A.arg9 A.arg10 cs) s fun x s' => Part max (scores f0 f1 a b) n rs x ∧
      ∃ v8 v10, s' = { s with s8 := v8, s10 := v10 } ∧
        (∀ z, v8 z = if In2 rs 0 (rows n) 1408 z then scores f0 f1 a b (z 0).val (z 1).val else s.s8 z) ∧
        (∀ z, v10 z = if In2 rs 0 (rows n) 128 z then rowTop (scores f0 f1 a b) (z 0).val else s.s10 z) := by
  set X := scores f0 f1 a b with hX
  refine Tr.bind (Tr.ld3 slot3 (fun _ r k => f0 r k) fun z _ _ _ _ _ _ => h3 z) fun f0v s1 ⟨h0v, e1⟩ => ?_
  subst e1
  refine Tr.bind (Tr.ld2 slot9 (fun r _ => a r) fun z _ _ _ _ => h9 z) fun av s1 ⟨hav, e1⟩ => ?_
  subst e1
  -- a tile's scores
  have tile : ∀ (k p : ℕ) (f1v : Vec Ideal (M3 1 k 256) .fp8e4m3) (hf1 : ∀ y, f1v y = f1 (p + (y 1).val) (0 + (y 2).val)) (y : (M2 (rows n) k).Idx),
      dots n k (shapeCast (M2 (rows n) 256) f0v sc32) f1v y = ∑ d : Fin 256, f0 (rs + (y 0).val) d.val * f1 (p + (y 1).val) d.val := fun k p f1v hf1 y => by
    rw [dots_apply]
    refine Finset.sum_congr rfl fun d _ => ?_
    rw [cast32, h0v, hf1]
    show f0 (rs + (y 0).val) (0 + d.val) * f1 (p + (y 1).val) (0 + d.val) = _
    rw [Nat.zero_add]
  have sc : ∀ (t : Fin 11) (v : Vec Ideal (M2 (rows n) 128) .f32) (y : (M2 (rows n) 128).Idx) (hy : 128 * t.val + (y 1).val < 1344)
      (hv : v y = ∑ d : Fin 256, f0 (rs + (y 0).val) d.val * f1 (128 * t.val + (y 1).val) d.val),
      scaled n av (cs t) v y = X (rs + (y 0).val) (128 * t.val + (y 1).val) := fun t v y hy hv => by
    rw [scaled_apply, hv, hav, hcs t _ hy, hX, scores, if_pos hy]
  refine Tr.bind (Tr.loop 5 _ (fun g s' => ∃ v8, s' = { s1 with s8 := v8 } ∧ ∀ z, v8 z = if In2 rs 0 (rows n) (256 * g) z then X (z 0).val (z 1).val else s1.s8 z)
    (fun g x => (∀ y, x.1 y = X (rs + (y 0).val) (128 * (2 * g.val) + (y 1).val)) ∧ (∀ y, x.2 y = X (rs + (y 0).val) (128 * (2 * g.val + 1) + (y 1).val)))
    s1 ⟨s1.s8, rfl, fun z => (if_neg (by simp only [In2]; omega)).symm⟩ ?_) fun xs s2 ⟨hxs, v8, e2, hv8⟩ => ?_
  · rintro g s2 ⟨v8, rfl, hv8⟩
    refine Tr.bind (Tr.ld3 slot4 (fun _ r k => f1 r k) fun z _ _ _ _ _ _ => h4 z) fun f1v s2 ⟨hf1, e2⟩ => ?_
    subst e2
    have hx := fun (y : (M2 (rows n) 128).Idx) => sc ⟨2 * g.val, by omega⟩ (extractStridedSlice (M2 (rows n) 128) ![0, 0]
      (dots n 256 (shapeCast (M2 (rows n) 256) f0v sc32) f1v) (sl2 ⟨by omega, by decide⟩)) y
      (by have : (y 1).val < 128 := (y 1).isLt; have := g.isLt; show 128 * (2 * g.val) + _ < _; omega)
      (by
        have h1 : (y 1).val < 128 := (y 1).isLt
        refine (slice2' _ _ (fun p q => ∑ d : Fin 256, f0 (rs + p) d.val * f1 (256 * g.val + q) d.val) (tile _ _ _ hf1) y).trans ?_
        show ∑ d : Fin 256, f0 (rs + (0 + (y 0).val)) d.val * f1 (256 * g.val + (0 + (y 1).val)) d.val = ∑ d : Fin 256, f0 (rs + (y 0).val) d.val * f1 (128 * (2 * g.val) + (y 1).val) d.val
        rw [show 256 * g.val + (0 + (y 1).val) = 128 * (2 * g.val) + (y 1).val by omega, Nat.zero_add])
    refine Tr.bind (Tr.st2 slot8 X fun y => (cast_self _ _ y).trans ((hx y).trans (by
      show X (rs + (y 0).val) (128 * (2 * g.val) + (y 1).val) = _; rw [show 128 * (2 * g.val) = 256 * g.val by omega]))) fun _ s3 ⟨w, e3, hw⟩ => ?_
    subst e3
    have hy := fun (y : (M2 (rows n) 128).Idx) => sc ⟨2 * g.val + 1, by omega⟩ (extractStridedSlice (M2 (rows n) 128) ![0, 128]
      (dots n 256 (shapeCast (M2 (rows n) 256) f0v sc32) f1v) (sl2 ⟨by omega, by decide⟩)) y
      (by have : (y 1).val < 128 := (y 1).isLt; have := g.isLt; show 128 * (2 * g.val + 1) + _ < _; omega)
      (by
        have h1 : (y 1).val < 128 := (y 1).isLt
        refine (slice2' _ _ (fun p q => ∑ d : Fin 256, f0 (rs + p) d.val * f1 (256 * g.val + q) d.val) (tile _ _ _ hf1) y).trans ?_
        show ∑ d : Fin 256, f0 (rs + (0 + (y 0).val)) d.val * f1 (256 * g.val + (128 + (y 1).val)) d.val
          = ∑ d : Fin 256, f0 (rs + (y 0).val) d.val * f1 (128 * (2 * g.val + 1) + (y 1).val) d.val
        rw [show 256 * g.val + (128 + (y 1).val) = 128 * (2 * g.val + 1) + (y 1).val by omega, Nat.zero_add])
    refine Tr.bind (Tr.st2 slot8 X fun y => (cast_self _ _ y).trans ((hy y).trans (by
      show X (rs + (y 0).val) (128 * (2 * g.val + 1) + (y 1).val) = _; rw [show 128 * (2 * g.val + 1) = 256 * g.val + 128 by omega]))) fun _ s4 ⟨w', e4, hw'⟩ => ?_
    subst e4
    refine Tr.pure ⟨⟨hx, hy⟩, w', rfl, fun z => ?_⟩
    refine (hw' z).trans ((congrArg (ite _ _) ((hw z).trans (congrArg (ite _ _) (hv8 z)))).trans ?_)
    refine (congrArg (ite _ _) (ite_or (R := In2 rs 0 (rows n) (256 * g.val + 128) z) (by simp only [In2]; omega) fun _ => rfl)).trans ?_
    exact ite_or (by simp only [In2]; omega) fun _ => rfl
  subst e2
  refine Tr.bind (Tr.ld3 slot4 (fun _ r k => f1 r k) fun z _ _ _ _ _ _ => h4 z) fun f1v s2 ⟨hf1, e2⟩ => ?_
  subst e2
  have hx : ∀ y : (M2 (rows n) 128).Idx, masked n (scaled n av (cs 10) (concatenate (M2 (rows n) 128) 1
      [⟨M2 (rows n) 64, dots (F := Ideal) n 64 (shapeCast (M2 (rows n) 256) f0v sc32) f1v⟩, ⟨M2 (rows n) 64, broadcast (M2 (rows n) 64) (Scalar.ofBits (F := Ideal) .f32 0x00000000#32)⟩] (cat2 rfl))) y
      = X (rs + (y 0).val) (1280 + (y 1).val) := fun y => by
    rw [masked_apply]
    split_ifs with h
    · refine sc 10 _ y (by show 128 * 10 + _ < _; omega) ?_
      rw [cat_left _ _ _ _ h, tile _ _ _ hf1]; rfl
    · rw [hX, scores, if_neg (by omega)]
  refine Tr.bind (Tr.st2 slot8 X fun y => (cast_self _ _ y).trans (hx y)) fun _ s3 ⟨w, e3, hw⟩ => ?_
  subst e3
  have hall : ∀ (t : Fin 11) (y : (M2 (rows n) 128).Idx), (ext (fun t : Fin 10 => if t.val % 2 = 0 then (xs ⟨t.val / 2, by omega⟩).1 else (xs ⟨t.val / 2, by omega⟩).2)
      (masked n (scaled n av (cs 10) (concatenate (M2 (rows n) 128) 1
      [⟨M2 (rows n) 64, dots (F := Ideal) n 64 (shapeCast (M2 (rows n) 256) f0v sc32) f1v⟩, ⟨M2 (rows n) 64, broadcast (M2 (rows n) 64) (Scalar.ofBits (F := Ideal) .f32 0x00000000#32)⟩] (cat2 rfl)))) : Fin 11 → Vec Ideal (M2 (rows n) 128) .f32) t y
      = X (rs + (y 0).val) (128 * t.val + (y 1).val) := fun t y => by
    unfold ext
    split_ifs with ht
    on_goal 1 => dsimp only
    on_goal 1 => split_ifs with hp
    · rw [(hxs ⟨t.val / 2, by omega⟩).1 y]
      show X _ (128 * (2 * (t.val / 2)) + _) = _
      rw [show 2 * (t.val / 2) = t.val by omega]
    · rw [(hxs ⟨t.val / 2, by omega⟩).2 y]
      show X _ (128 * (2 * (t.val / 2) + 1) + _) = _
      rw [show 2 * (t.val / 2) + 1 = t.val by omega]
    · rw [hx, show 128 * t.val = 1280 by omega]
  refine Tr.bind (Tr.st2 slot10 (fun r _ => rowTop X r) fun y => rowMax_apply X n rs _ hall _ _ y) fun _ s4 ⟨u, e4, hu⟩ => ?_
  subst e4
  refine Tr.pure ⟨part_of (maximumf (F := Ideal)) max (fun _ _ _ => rfl) X n rs _ hall, w, u, rfl, fun z => ?_, hu⟩
  refine (hw z).trans ((congrArg (ite _ _) (hv8 z)).trans (ite_or ?_ fun _ => rfl))
  have : (z 1).val < 1408 := (z 1).isLt
  simp only [In2]; omega

end Cert.KernelIdeal.Own
-- ==== Proof.Run.lean ====
module

public import proofs.«01_k».proof.Proof.Passes

/-!
The second and third pass, the scales, the results' stores, and the body as a whole: what each leaves in the buffers.
-/

@[expose] public section

noncomputable section

namespace Cert.KernelIdeal.Own

open Idealize.ShloMosaic Idealize.ShloMosaic.ValueIdx
open Cert.KernelIdeal

variable [Facts] {c : Dev nD} {A : Bufs}

/-- Pass 2 on a chunk. -/
theorem pass2_spec {n rs : ℕ} (hrs : rs + rows n ≤ 1200) {sh : Fin 11 → Vec Ideal (M2 1 128) .f32} {s : St} (X : ℕ → ℕ → EReal)
    (h8 : ∀ z, In2 rs 0 (rows n) 1408 z → s.s8 z = X (z 0).val (z 1).val) (h10 : ∀ z, In2 rs 0 (rows n) 128 z → s.s10 z = rowTop X (z 0).val)
    (hsh : ∀ t y, sh t y = colTop X (128 * t.val + (y 1).val)) :
    Tr c A (pass2 n rs hrs A.arg8 A.arg10 sh) s fun x s' => Part (· + ·) (colExp X) n rs x ∧
      ∃ v8 v10, s' = { s with s8 := v8, s10 := v10 } ∧
        (∀ z, v8 z = if In2 rs 0 (rows n) 1408 z then bothExp X (z 0).val (z 1).val else s.s8 z) ∧
        (∀ z, v10 z = if In2 rs 0 (rows n) 128 z then rowInv X (z 0).val else s.s10 z) := by
  refine Tr.bind (Tr.ld2 slot10 (fun r _ => rowTop X r) fun z a b d e => h10 z ⟨⟨a, b⟩, d, e⟩) fun rv s1 ⟨hrv, e1⟩ => ?_
  subst e1
  refine Tr.bind (Tr.loop 11 _ (fun t s' => ∃ v8, s' = { s1 with s8 := v8 } ∧ ∀ z, v8 z = if In2 rs 0 (rows n) (128 * t) z then bothExp X (z 0).val (z 1).val else s1.s8 z)
    (fun t x => (∀ y, x.1 y = rowExp X (rs + (y 0).val) (128 * t.val + (y 1).val)) ∧ (∀ y, x.2 y = colExp X (rs + (y 0).val) (128 * t.val + (y 1).val)))
    s1 ⟨s1.s8, rfl, fun z => (if_neg (by simp only [In2]; omega)).symm⟩ ?_) fun es s2 ⟨hes, v8, e2, hv8⟩ => ?_
  · rintro t s2 ⟨v8, rfl, hv8⟩
    refine Tr.bind (Tr.ld2 slot8 X fun z a b d e => (hv8 z).trans ((if_neg (by simp only [In2]; omega)).trans
      (h8 z ⟨⟨a, b⟩, Nat.zero_le _, by have := t.isLt; omega⟩))) fun x s2 ⟨hx, e2⟩ => ?_
    subst e2
    have hr : ∀ y : (M2 (rows n) 128).Idx, exp2 (F := Ideal) (φ := .f32) (subf x rv) y = rowExp X (rs + (y 0).val) (128 * t.val + (y 1).val) := fun y => by
      show Ideal.exp2 (x y - rv y) = _
      rw [hx, hrv, rowExp]
    have hc : ∀ y : (M2 (rows n) 128).Idx, exp2 (F := Ideal) (φ := .f32) (subf x (broadcastTo (M2 (rows n) 128) (sh t) (bc2 ⟨.inl rfl, .inr rfl⟩))) y
        = colExp X (rs + (y 0).val) (128 * t.val + (y 1).val) := fun y => by
      show Ideal.exp2 (x y - broadcastTo (M2 (rows n) 128) (sh t) _ y) = _
      rw [hx, bcRow, hsh, colExp]
    refine Tr.bind (Tr.st2 slot8 (bothExp X) fun y => (cast_self _ _ y).trans (congrArg₂ (fun a b : EReal => a * b) (hr y) (hc y))) fun _ s3 ⟨w, e3, hw⟩ => ?_
    subst e3
    refine Tr.pure ⟨⟨hr, hc⟩, w, rfl, fun z => ?_⟩
    exact (hw z).trans ((congrArg (ite _ _) (hv8 z)).trans (ite_or (by simp only [In2]; omega) fun _ => rfl))
  subst e2
  refine Tr.bind (Tr.st2 slot10 (fun r _ => rowInv X r) fun y => rowInv_apply X n rs _ (fun t => (hes t).1) _ _ y) fun _ s4 ⟨u, e4, hu⟩ => ?_
  subst e4
  exact Tr.pure ⟨part_of (addf (F := Ideal)) (· + ·) (fun _ _ _ => rfl) (colExp X) n rs _ fun t => (hes t).2, v8, u, rfl, hv8, hu⟩

/-- Pass 3 on a chunk. -/
theorem pass3_spec {n rs : ℕ} (hrs : rs + rows n ≤ 1200) (h2 : 2 ∣ rs) {harg5 : A.arg5.IsWhole} {inv : Fin 11 → Vec Ideal (M2 1 128) .f32} {s : St} (X : ℕ → ℕ → EReal)
    (h8 : ∀ z, s.s8 z = bothExp X (z 0).val (z 1).val) (h10 : ∀ z, In2 rs 0 (rows n) 128 z → s.s10 z = rowInv X (z 0).val)
    (hinv : ∀ t y, inv t y = colInvs X (128 * t.val + (y 1).val)) :
    Tr c A (pass3 n rs hrs A.arg5 harg5 A.arg8 A.arg10 h2 inv) s fun x s' => Part max (conf X) n rs x ∧
      ∃ v5 v10, s' = { s with s5 := v5, s10 := v10 } ∧
        (∀ z, v5 z = if In3 0 rs 0 1 (rows n) 1344 z then conf X (z 1).val (z 2).val else s.s5 z) ∧
        (∀ z, v10 z = if In2 rs 0 (rows n) 128 z then rowTop (conf X) (z 0).val else s.s10 z) := by
  refine Tr.bind (Tr.ld2 slot10 (fun r _ => rowInv X r) fun z a b d e => h10 z ⟨⟨a, b⟩, d, e⟩) fun rv s1 ⟨hrv, e1⟩ => ?_
  subst e1
  have cc : ∀ (t : Fin 11) (x : Vec Ideal (M2 (rows n) 128) .f32) (hx : ∀ y, x y = bothExp X (rs + (y 0).val) (128 * t.val + (y 1).val)) (y : (M2 (rows n) 128).Idx),
      mulf (F := Ideal) (φ := .f32) (mulf x rv) (broadcastTo (M2 (rows n) 128) (inv t) (bc2 ⟨.inl rfl, .inr rfl⟩)) y
        = conf X (rs + (y 0).val) (128 * t.val + (y 1).val) := fun t x hx y => by
    show (x y * rv y) * broadcastTo (M2 (rows n) 128) (inv t) _ y = _
    rw [hx, bcRow, hrv, hinv, conf]
  refine Tr.bind (Tr.loop 10 _ (fun t s' => ∃ v5, s' = { s1 with s5 := v5 } ∧ ∀ z, v5 z = if In3 0 rs 0 1 (rows n) (128 * t) z then conf X (z 1).val (z 2).val else s1.s5 z)
    (fun t x => ∀ y, x y = conf X (rs + (y 0).val) (128 * t.val + (y 1).val))
    s1 ⟨s1.s5, rfl, fun z => (if_neg (by simp only [In3]; omega)).symm⟩ ?_) fun cs s2 ⟨hcs, v5, e2, hv5⟩ => ?_
  · rintro t s2 ⟨v5, rfl, hv5⟩
    refine Tr.bind (Tr.ld2 slot8 (bothExp X) fun z _ _ _ _ => h8 z) fun x s2 ⟨hx, e2⟩ => ?_
    subst e2
    have hc := cc t.castSucc x hx
    refine Tr.bind (Tr.st3b slot5 (fun _ r q => conf X r q) fun y => (cast23 _ _ y).trans (hc _)) fun _ s3 ⟨w, e3, hw⟩ => ?_
    subst e3
    refine Tr.pure ⟨hc, w, rfl, fun z => ?_⟩
    exact (hw z).trans ((congrArg (ite _ _) (hv5 z)).trans (ite_or (by simp only [In3]; omega) fun _ => rfl))
  subst e2
  refine Tr.bind (Tr.ld2 slot8 (bothExp X) fun z _ _ _ _ => h8 z) fun x s2 ⟨hx, e2⟩ => ?_
  subst e2
  have hc := cc 10 x hx
  refine Tr.bind (Tr.st3b slot5 (fun _ r q => conf X r q) fun y => (cast23 _ _ y).trans
    ((slice2' _ (sl2 ⟨by omega, by decide⟩) (fun p q => conf X (rs + p) (1280 + q)) hc _).trans (by
      show conf X (rs + (0 + (y 1).val)) (1280 + (0 + (y 2).val)) = _; simp only [Nat.zero_add]))) fun _ s3 ⟨w, e3, hw⟩ => ?_
  subst e3
  have hall : ∀ (t : Fin 11) (y : (M2 (rows n) 128).Idx), (ext cs (mulf (F := Ideal) (φ := .f32) (mulf x rv) (broadcastTo (M2 (rows n) 128) (inv 10) (bc2 ⟨.inl rfl, .inr rfl⟩))) : Fin 11 → Vec Ideal (M2 (rows n) 128) .f32) t y
      = conf X (rs + (y 0).val) (128 * t.val + (y 1).val) := fun t y => by
    unfold ext
    split_ifs with ht
    · exact hcs ⟨t.val, ht⟩ y
    · rw [hc, show (10 : Fin 11).val = t.val by show 10 = t.val; omega]
  refine Tr.bind (Tr.st2 slot10 (fun r _ => rowTop (conf X) r) fun y => rowMax_apply (conf X) n rs _ hall _ _ y) fun _ s4 ⟨u, e4, hu⟩ => ?_
  subst e4
  refine Tr.pure ⟨part_of (maximumf (F := Ideal)) max (fun _ _ _ => rfl) (conf X) n rs _ hall, w, u, rfl, fun z => ?_, hu⟩
  exact (hw z).trans ((congrArg (ite _ _) (hv5 z)).trans (ite_or (by simp only [In3]; omega) fun _ => rfl))

/-! ## The passes over all chunks -/

theorem done2 {α : Type} {b r n : ℕ} {X : ℕ → ℕ → α} {v u o : (M2 1200 b).Idx → α} (hv : ∀ z, v z = if In2 r 0 n b z then X (z 0).val (z 1).val else u z)
    (hu : ∀ z, u z = if (z 0).val < r then X (z 0).val (z 1).val else o z) (z : (M2 1200 b).Idx) :
    v z = if (z 0).val < r + n then X (z 0).val (z 1).val else o z := by
  refine (hv z).trans ((congrArg (ite _ _) (hu z)).trans (ite_or ?_ fun _ => rfl))
  have : (z 1).val < b := (z 1).isLt
  simp only [In2]; omega

theorem all1 {cs : Fin 11 → Vec Ideal (M2 1 128) .f32} {s : St} {f0 f1 : ℕ → ℕ → EReal} {a b : ℕ → EReal}
    (h3 : ∀ z, s.s3 z = f0 (z 1).val (z 2).val) (h4 : ∀ z, s.s4 z = f1 (z 1).val (z 2).val) (h9 : ∀ z, s.s9 z = a (z 0).val)
    (hcs : ∀ t y, 128 * t.val + (y 1).val < 1344 → cs t y = b (128 * t.val + (y 1).val)) :
    Tr c A (chunks (maximumf (F := Ideal) (φ := .f32)) fun n rs h _ => pass1 n rs h A.arg3 A.arg4 A.arg8 A.arg9 A.arg10 cs) s fun x s' => Whole max (scores f0 f1 a b) x ∧
      ∃ v8 v10, s' = { s with s8 := v8, s10 := v10 } ∧ (∀ z, v8 z = scores f0 f1 a b (z 0).val (z 1).val) ∧ (∀ z, v10 z = rowTop (scores f0 f1 a b) (z 0).val) := by
  set X := scores f0 f1 a b with hX
  refine (Tr.chunks (maximumf (F := Ideal) (φ := .f32)) max (fun _ _ _ => rfl) X (fun r s' => ∃ v8 v10, s' = { s with s8 := v8, s10 := v10 } ∧
    (∀ z, v8 z = if (z 0).val < r then X (z 0).val (z 1).val else s.s8 z) ∧ (∀ z, v10 z = if (z 0).val < r then rowTop X (z 0).val else s.s10 z))
    ⟨s.s8, s.s10, rfl, fun z => (if_neg (Nat.not_lt_zero _)).symm, fun z => (if_neg (Nat.not_lt_zero _)).symm⟩ ?_).mono ?_
  · rintro n rs h h2 s1 ⟨v8, v10, rfl, h8, h10⟩
    refine (pass1_spec (s := { s with s8 := v8, s10 := v10 }) (f0 := f0) (f1 := f1) (a := a) (b := b) h h3 h4 h9 hcs).mono ?_
    rintro x _ ⟨hx, w8, w10, rfl, k8, k10⟩
    exact ⟨hx, w8, w10, rfl, done2 k8 h8, done2 (X := fun r _ => rowTop X r) k10 h10⟩
  · rintro x s1 ⟨hx, v8, v10, rfl, h8, h10⟩
    exact ⟨hx, v8, v10, rfl, fun z => (h8 z).trans (if_pos (z 0).isLt), fun z => (h10 z).trans (if_pos (z 0).isLt)⟩

theorem all2 {sh : Fin 11 → Vec Ideal (M2 1 128) .f32} {s : St} (X : ℕ → ℕ → EReal)
    (h8 : ∀ z, s.s8 z = X (z 0).val (z 1).val) (h10 : ∀ z, s.s10 z = rowTop X (z 0).val) (hsh : ∀ t y, sh t y = colTop X (128 * t.val + (y 1).val)) :
    Tr c A (chunks (addf (F := Ideal) (φ := .f32)) fun n rs h _ => pass2 n rs h A.arg8 A.arg10 sh) s fun x s' => Whole (· + ·) (colExp X) x ∧
      ∃ v8 v10, s' = { s with s8 := v8, s10 := v10 } ∧ (∀ z, v8 z = bothExp X (z 0).val (z 1).val) ∧ (∀ z, v10 z = rowInv X (z 0).val) := by
  refine (Tr.chunks (addf (F := Ideal) (φ := .f32)) (· + ·) (fun _ _ _ => rfl) (colExp X) (fun r s' => ∃ v8 v10, s' = { s with s8 := v8, s10 := v10 } ∧
    (∀ z, v8 z = if (z 0).val < r then bothExp X (z 0).val (z 1).val else s.s8 z) ∧ (∀ z, v10 z = if (z 0).val < r then rowInv X (z 0).val else s.s10 z))
    ⟨s.s8, s.s10, rfl, fun z => (if_neg (Nat.not_lt_zero _)).symm, fun z => (if_neg (Nat.not_lt_zero _)).symm⟩ ?_).mono ?_
  · rintro n rs h h2 s1 ⟨v8, v10, rfl, k8, k10⟩
    refine (pass2_spec (s := { s with s8 := v8, s10 := v10 }) h X (fun z hz => (k8 z).trans ((if_neg (by simp only [In2] at hz; omega)).trans (h8 z)))
      (fun z hz => (k10 z).trans ((if_neg (by simp only [In2] at hz; omega)).trans (h10 z))) hsh).mono ?_
    rintro x _ ⟨hx, w8, w10, rfl, l8, l10⟩
    exact ⟨hx, w8, w10, rfl, done2 l8 k8, done2 (X := fun r _ => rowInv X r) l10 k10⟩
  · rintro x s1 ⟨hx, v8, v10, rfl, h8, h10⟩
    exact ⟨hx, v8, v10, rfl, fun z => (h8 z).trans (if_pos (z 0).isLt), fun z => (h10 z).trans (if_pos (z 0).isLt)⟩

theorem all3 {harg5 : A.arg5.IsWhole} {inv : Fin 11 → Vec Ideal (M2 1 128) .f32} {s : St} (X : ℕ → ℕ → EReal)
    (h8 : ∀ z, s.s8 z = bothExp X (z 0).val (z 1).val) (h10 : ∀ z, s.s10 z = rowInv X (z 0).val) (hinv : ∀ t y, inv t y = colInvs X (128 * t.val + (y 1).val)) :
    Tr c A (chunks (maximumf (F := Ideal) (φ := .f32)) fun n rs h h2 => pass3 n rs h A.arg5 harg5 A.arg8 A.arg10 h2 inv) s fun x s' => Whole max (conf X) x ∧
      ∃ v5 v10, s' = { s with s5 := v5, s10 := v10 } ∧ (∀ z, v5 z = conf X (z 1).val (z 2).val) ∧ (∀ z, v10 z = rowTop (conf X) (z 0).val) := by
  refine (Tr.chunks (maximumf (F := Ideal) (φ := .f32)) max (fun _ _ _ => rfl) (conf X) (fun r s' => ∃ v5 v10, s' = { s with s5 := v5, s10 := v10 } ∧
    (∀ z, v5 z = if (z 1).val < r then conf X (z 1).val (z 2).val else s.s5 z) ∧ (∀ z, v10 z = if (z 0).val < r then rowTop (conf X) (z 0).val else s.s10 z))
    ⟨s.s5, s.s10, rfl, fun z => (if_neg (Nat.not_lt_zero _)).symm, fun z => (if_neg (Nat.not_lt_zero _)).symm⟩ ?_).mono ?_
  · rintro n rs h h2 s1 ⟨v5, v10, rfl, k5, k10⟩
    refine (pass3_spec (s := { s with s5 := v5, s10 := v10 }) h h2 X h8 (fun z hz => (k10 z).trans ((if_neg (by simp only [In2] at hz; omega)).trans (h10 z))) hinv).mono ?_
    rintro x _ ⟨hx, w5, w10, rfl, l5, l10⟩
    refine ⟨hx, w5, w10, rfl, fun z => ?_, done2 (X := fun r _ => rowTop (conf X) r) l10 k10⟩
    refine (l5 z).trans ((congrArg (ite _ _) (k5 z)).trans (ite_or ?_ fun _ => rfl))
    have h2 : (z 2).val < 1344 := (z 2).isLt
    have h0 : (z 0).val < 1 := (z 0).isLt
    simp only [In3]; omega
  · rintro x s1 ⟨hx, v5, v10, rfl, h5, h10⟩
    exact ⟨hx, v5, v10, rfl, fun z => (h5 z).trans (if_pos (z 1).isLt), fun z => (h10 z).trans (if_pos (z 0).isLt)⟩

/-! ## The scales -/

/-- The row scales' constant factor. -/
def scl : EReal := Named.named (F := Ideal) (φ := .f32) κ "scale" 0x3D66D4CA#32

theorem scaled_pick (i : grid0.Coords) (w : ℕ) (x : Vec Ideal (M2 8 w) .f32) (X : ℕ → ℕ → EReal) (hx : ∀ y, x y = X (base8 i + (y 0).val) (y 1).val) (y : (M2 1 w).Idx) :
    mulf (F := Ideal) (φ := .f32) (pick (mask8 i) w x) (broadcast (M2 1 w) (Named.named κ "scale" 0x3D66D4CA#32)) y = X (i 0).val (y 1).val * scl :=
  congrArg (fun a : EReal => a * scl) (pick_apply i (base8_spec i) w x X hx y)

theorem rowScales_spec (i : grid0.Coords) (hb : base8 i + 8 ≤ 16) {s : St} (S : ℕ → ℕ → EReal) (h1 : ∀ z, s.s1 z = S (z 0).val (z 1).val) :
    Tr c A (rowScales i hb A.arg1 A.arg9) s fun _ s' => ∃ v9, s' = { s with s9 := v9 } ∧ ∀ z, v9 z = S (i 0).val (z 0).val * scl := by
  refine Tr.bind (Tr.loop' 9 _ (fun t s' => ∃ v9, s' = { s with s9 := v9 } ∧ ∀ z, v9 z = if In2 0 0 (128 * t) 128 z then S (i 0).val (z 0).val * scl else s.s9 z)
    s ⟨s.s9, rfl, fun z => (if_neg (by simp only [In2]; omega)).symm⟩ ?_) fun _ s1 ⟨v9, e1, h9⟩ => ?_
  · rintro t s1 ⟨v9, rfl, h9⟩
    refine Tr.bind (Tr.ld2 slot1 S fun z _ _ _ _ => h1 z) fun x s1 ⟨hx, e1⟩ => ?_
    subst e1
    refine Tr.mono (Tr.st2 slot9 (fun r _ => S (i 0).val r * scl) fun y => (cast_self _ _ y).trans ((stand_apply _ y).trans
      (scaled_pick i 128 x (fun p q => S p (128 * t.val + q)) hx _))) ?_
    rintro _ _ ⟨w, rfl, hw⟩
    exact ⟨w, rfl, fun z => (hw z).trans ((congrArg (ite _ _) (h9 z)).trans (ite_or (by simp only [In2]; omega) fun _ => rfl))⟩
  subst e1
  refine Tr.bind (Tr.ld2 slot1 S fun z _ _ _ _ => h1 z) fun x s1 ⟨hx, e1⟩ => ?_
  subst e1
  refine Tr.mono (Tr.st2 slot9 (fun r _ => S (i 0).val r * scl) fun y => (cast_self _ _ y).trans ?_) ?_
  · have hy : (y 0).val < 48 := (y 0).isLt
    have hy1 : (y 1).val < 128 := (y 1).isLt
    refine Eq.trans (slice2 _ _ y (ix2 ⟨(y 0).val, by omega⟩ ⟨(y 1).val, hy1⟩) (Nat.zero_add _).symm (Nat.zero_add _).symm) ((stand_apply _ _).trans ?_)
    refine (cat_left _ _ _ _ hy).trans ?_
    exact scaled_pick i 48 x (fun p q => S p (1152 + q)) hx _
  · rintro _ _ ⟨w, rfl, hw⟩
    refine ⟨w, rfl, fun z => (hw z).trans ((congrArg (ite _ _) (h9 z)).trans ((ite_or (R := True) ?_ fun _ => rfl).trans (if_pos trivial)))⟩
    have h0 : (z 0).val < 1200 := (z 0).isLt
    have h1 : (z 1).val < 128 := (z 1).isLt
    simp only [In2, true_iff]; omega

theorem colScales_spec (i : grid0.Coords) (hb : base8 i + 8 ≤ 16) {s : St} (S : ℕ → ℕ → EReal) (h2 : ∀ z, s.s2 z = S (z 0).val (z 1).val) :
    Tr c A (colScales i hb A.arg2) s fun cs s' => (∀ t y, 128 * t.val + (y 1).val < 1344 → cs t y = S (i 0).val (128 * t.val + (y 1).val)) ∧ s' = s := by
  refine Tr.bind (Tr.loop 10 _ (fun _ s' => s' = s) (fun t x => ∀ y, x y = S (i 0).val (128 * t.val + (y 1).val)) s rfl ?_) fun cs s1 ⟨hcs, e1⟩ => ?_
  · rintro t s1 rfl
    refine Tr.bind (Tr.ld2 slot2 S fun z _ _ _ _ => h2 z) fun x s1 ⟨hx, e1⟩ => ?_
    subst e1
    exact Tr.pure ⟨fun y => pick_apply i (base8_spec i) 128 x (fun p q => S p (128 * t.val + q)) hx y, rfl⟩
  subst e1
  refine Tr.bind (Tr.ld2 slot2 S fun z _ _ _ _ => h2 z) fun x s1 ⟨hx, e1⟩ => ?_
  subst e1
  refine Tr.pure ⟨fun t y ht => ?_, rfl⟩
  unfold ext
  split_ifs with h
  · exact hcs ⟨t.val, h⟩ y
  · have e : t.val = 10 := by omega
    rw [e] at ht ⊢
    have hy : (y 1).val < 64 := by omega
    exact (cat_left _ _ _ _ hy).trans (pick_apply i (base8_spec i) 64 x (fun p q => S p (1280 + q)) hx _)

/-! ## The results' rows -/

theorem colOut_spec (i : grid0.Coords) (hi : pt i + 1 ≤ 16) {cols : Fin 11 → Vec Ideal (M2 8 128) .f32} {s : St} {G : ℕ → ℕ → EReal} (h : Whole max G cols) :
    Tr c A (colOut i hi A.arg12 cols) s fun _ s' => ∃ v12, s' = { s with s12 := v12 } ∧ ∀ z, v12 z = if (z 0).val = (i 0).val then colTop G (z 2).val else s.s12 z := by
  refine Tr.bind (Tr.loop' 10 _ (fun t s' => ∃ v, s' = { s with s12 := v } ∧ ∀ z, v z = if In3 (pt i) 0 0 1 1 (128 * t) z then colTop G (z 2).val else s.s12 z)
    s ⟨s.s12, rfl, fun z => (if_neg (by simp only [In3]; omega)).symm⟩ ?_) fun _ s1 ⟨v, e1, hv⟩ => ?_
  · rintro t s1 ⟨v, rfl, hv⟩
    refine Tr.mono (Tr.st3 slot12 (fun _ _ q => colTop G q) fun y => (cast23 _ _ y).trans (colMax_of h t.castSucc _)) ?_
    rintro _ _ ⟨w, rfl, hw⟩
    exact ⟨w, rfl, fun z => (hw z).trans ((congrArg (ite _ _) (hv z)).trans (ite_or (by simp only [In3]; omega) fun _ => rfl))⟩
  subst e1
  refine Tr.mono (Tr.st3 slot12 (fun _ _ q => colTop G q) fun y => (cast23 _ _ y).trans ((slice2' _ (sl2 (by decide)) (fun p q => colTop G (1280 + q)) (colMax_of h 10) _).trans (by
    show colTop G (1280 + (0 + (y 2).val)) = _; rw [Nat.zero_add]))) ?_
  rintro _ _ ⟨w, rfl, hw⟩
  refine ⟨w, rfl, fun z => (hw z).trans ((congrArg (ite _ _) (hv z)).trans (ite_or ?_ fun _ => rfl))⟩
  have h1 : (z 1).val < 1 := (z 1).isLt
  have h2 : (z 2).val < 1344 := (z 2).isLt
  simp only [In3, pt_eq]; omega

theorem rowOut_spec (i : grid0.Coords) (hi : pt i + 1 ≤ 16) {s : St} {g : ℕ → EReal} (h : ∀ z, s.s10 z = g (z 0).val) :
    Tr c A (rowOut i hi A.arg10 A.arg11) s fun _ s' => ∃ v11, s' = { s with s11 := v11 } ∧ ∀ z, v11 z = if (z 0).val = (i 0).val then g (z 2).val else s.s11 z := by
  refine Tr.bind (Tr.loop' 9 _ (fun t s' => ∃ v, s' = { s with s11 := v } ∧ ∀ z, v z = if In3 (pt i) 0 0 1 1 (128 * t) z then g (z 2).val else s.s11 z)
    s ⟨s.s11, rfl, fun z => (if_neg (by simp only [In3]; omega)).symm⟩ ?_) fun _ s1 ⟨v, e1, hv⟩ => ?_
  · rintro t s1 ⟨v, rfl, hv⟩
    refine Tr.bind (Tr.ld2 slot10 (fun r _ => g r) fun z _ _ _ _ => h z) fun x s1 ⟨hx, e1⟩ => ?_
    subst e1
    refine Tr.mono (Tr.st3 slot11 (fun _ _ q => g q) fun y => (cast23 _ _ y).trans ((onDiag_apply 128 diag diag_apply x _ (y 2).isLt).trans (hx _))) ?_
    rintro _ _ ⟨w, rfl, hw⟩
    exact ⟨w, rfl, fun z => (hw z).trans ((congrArg (ite _ _) (hv z)).trans (ite_or (by simp only [In3]; omega) fun _ => rfl))⟩
  subst e1
  refine Tr.bind (Tr.ld2 slot10 (fun r _ => g r) fun z _ _ _ _ => h z) fun x s1 ⟨hx, e1⟩ => ?_
  subst e1
  refine Tr.mono (Tr.st3 slot11 (fun _ _ q => g q) fun y => (cast23 _ _ y).trans ?_) ?_
  · have hy : (y 2).val < 48 := (y 2).isLt
    refine Eq.trans (slice2 _ _ _ (ix2 0 ⟨(y 2).val, by omega⟩) ?_ (Nat.zero_add _).symm) ((onDiag_apply 48 _ (fun y => ?_) x _ hy).trans (hx _))
    · have h1 : (y 1).val < 1 := (y 1).isLt
      show 0 = 0 + (y 1).val
      omega
    · have h1 : (y 0).val < 48 := (y 0).isLt
      have h2 : (y 1).val < 128 := (y 1).isLt
      rw [slice2 diag _ y (ix2 ⟨(y 0).val, by omega⟩ ⟨(y 1).val, h2⟩) (Nat.zero_add _).symm (Nat.zero_add _).symm, diag_apply]
  · rintro _ _ ⟨w, rfl, hw⟩
    refine ⟨w, rfl, fun z => (hw z).trans ((congrArg (ite _ _) (hv z)).trans (ite_or ?_ fun _ => rfl))⟩
    have h1 : (z 1).val < 1 := (z 1).isLt
    have h2 : (z 2).val < 1200 := (z 2).isLt
    simp only [In3, pt_eq]; omega

/-- A vector of rows read by numbers. -/
theorem table {a b : ℕ} (v : (M3 a 1 b).Idx → EReal) : ∃ T : ℕ → ℕ → EReal, ∀ z, v z = T (z 0).val (z 2).val :=
  ⟨fun p q => if h : p < a ∧ q < b then v (ix3 ⟨p, h.1⟩ 0 ⟨q, h.2⟩) else ⊥, fun z => by
    dsimp only
    rw [dif_pos (show (z 0).val < a ∧ (z 2).val < b from ⟨(z 0).isLt, (z 2).isLt⟩)]
    refine congrArg v ((eq_ix3 z).trans ?_)
    rw [Fin.eq_zero (z 1)]; rfl⟩

theorem tail_spec {s : St} : Tr c A (Own.tail A.arg6 A.arg7 A.arg11 A.arg12) s fun _ s' => ∃ v6 v7, s' = { s with s6 := v6, s7 := v7 } ∧
    (∀ z, v6 z = s.s11 (ix3 (z 0) 0 (z 1))) ∧ (∀ z, v7 z = s.s12 (ix3 (z 0) 0 (z 1))) := by
  obtain ⟨T, hT⟩ := table s.s11
  obtain ⟨U, hU⟩ := table s.s12
  refine Tr.bind (Tr.loop' 16 _ (fun r s' => ∃ v6 v7, s' = { s with s6 := v6, s7 := v7 } ∧ (∀ z, v6 z = if In2 0 0 r 1200 z then T (z 0).val (z 1).val else s.s6 z) ∧
      (∀ z, v7 z = if In2 0 0 r 1344 z then U (z 0).val (z 1).val else s.s7 z))
    s ⟨s.s6, s.s7, rfl, fun z => (if_neg (by simp only [In2]; omega)).symm, fun z => (if_neg (by simp only [In2]; omega)).symm⟩ ?_) fun _ s1 ⟨v6, v7, e1, h6, h7⟩ => ?_
  · rintro r s1 ⟨v6, v7, rfl, h6, h7⟩
    refine Tr.bind (Tr.ld3 slot11 (fun p _ q => T p q) fun z _ _ _ _ _ _ => hT z) fun x s1 ⟨hx, e1⟩ => ?_
    subst e1
    refine Tr.bind (Tr.st2 slot6 T fun y => (cast32 _ _ y).trans ((hx _).trans ?_)) fun _ s2 ⟨w6, e2, hw6⟩ => ?_
    · have : (y 0).val < 1 := (y 0).isLt
      show T (r.val + 0) (0 + (y 1).val) = _; rw [show (y 0).val = 0 by omega]
    subst e2
    refine Tr.bind (Tr.ld3 slot12 (fun p _ q => U p q) fun z _ _ _ _ _ _ => hU z) fun x s1 ⟨hx, e1⟩ => ?_
    subst e1
    refine Tr.mono (Tr.st2 slot7 U fun y => (cast32 _ _ y).trans ((hx _).trans ?_)) ?_
    · have : (y 0).val < 1 := (y 0).isLt
      show U (r.val + 0) (0 + (y 1).val) = _; rw [show (y 0).val = 0 by omega]
    rintro _ _ ⟨w7, rfl, hw7⟩
    exact ⟨w6, w7, rfl, fun z => (hw6 z).trans ((congrArg (ite _ _) (h6 z)).trans (ite_or (by simp only [In2]; omega) fun _ => rfl)),
      fun z => (hw7 z).trans ((congrArg (ite _ _) (h7 z)).trans (ite_or (by simp only [In2]; omega) fun _ => rfl))⟩
  subst e1
  refine Tr.pure ⟨v6, v7, rfl, fun z => ?_, fun z => ?_⟩
  · rw [h6, hT, if_pos ⟨⟨Nat.zero_le _, by rw [Nat.zero_add]; exact (z 0).isLt⟩, Nat.zero_le _, by rw [Nat.zero_add]; exact (z 1).isLt⟩]
  · rw [h7, hU, if_pos ⟨⟨Nat.zero_le _, by rw [Nat.zero_add]; exact (z 0).isLt⟩, Nat.zero_le _, by rw [Nat.zero_add]; exact (z 1).isLt⟩]

/-! ## The body -/

/-- What a point leaves: its block of confidences, its row of both scratch buffers, and at the last point the results' rows. -/
theorem body_spec (i : grid0.Coords) (hb : base8 i + 8 ≤ 16) (hi : pt i + 1 ≤ 16) {harg5 : A.arg5.IsWhole} {s : St} {f0 f1 S0 S1 : ℕ → ℕ → EReal}
    (h1 : ∀ z, s.s1 z = S0 (z 0).val (z 1).val) (h2 : ∀ z, s.s2 z = S1 (z 0).val (z 1).val)
    (h3 : ∀ z, s.s3 z = f0 (z 1).val (z 2).val) (h4 : ∀ z, s.s4 z = f1 (z 1).val (z 2).val)
    {X : ℕ → ℕ → EReal} (hX : X = scores f0 f1 (fun r => S0 (i 0).val r * scl) (S1 (i 0).val)) :
    Tr c A (body i hb hi A.arg1 A.arg2 A.arg3 A.arg4 A.arg5 harg5 A.arg6 A.arg7 A.arg8 A.arg9 A.arg10 A.arg11 A.arg12) s fun _ s' =>
      ∃ v5 v6 v7 v8 v9 v10 v11 v12, s' = ⟨s.s1, s.s2, s.s3, s.s4, v5, v6, v7, v8, v9, v10, v11, v12⟩ ∧
        (∀ z, v5 z = conf X (z 1).val (z 2).val) ∧
        (∀ z, v11 z = if (z 0).val = (i 0).val then rowTop (conf X) (z 2).val else s.s11 z) ∧
        (∀ z, v12 z = if (z 0).val = (i 0).val then colTop (conf X) (z 2).val else s.s12 z) ∧
        (k0_cond1 i = 1#1 → (∀ z, v6 z = v11 (ix3 (z 0) 0 (z 1))) ∧ (∀ z, v7 z = v12 (ix3 (z 0) 0 (z 1)))) ∧
        (¬ k0_cond1 i = 1#1 → v6 = s.s6 ∧ v7 = s.s7) := by
  subst hX
  refine Tr.bind (rowScales_spec i hb S0 h1) ?_
  rintro _ _ ⟨v9, rfl, h9⟩
  refine Tr.bind (colScales_spec i hb S1 h2) ?_
  rintro cs _ ⟨hcs, rfl⟩
  refine Tr.bind (all1 (f0 := f0) (f1 := f1) (a := fun r => S0 (i 0).val r * scl) (b := S1 (i 0).val) h3 h4 h9 hcs) ?_
  rintro m _ ⟨hm, v8, v10, rfl, h8, h10⟩
  generalize scores f0 f1 (fun r => S0 (i 0).val r * scl) (S1 (i 0).val) = X at *
  refine Tr.bind (all2 (s := ⟨s.s1, s.s2, s.s3, s.s4, s.s5, s.s6, s.s7, v8, v9, v10, s.s11, s.s12⟩) X h8 h10 (colMax_of hm)) ?_
  rintro q _ ⟨hq, w8, w10, rfl, k8, k10⟩
  refine Tr.bind (all3 (s := ⟨s.s1, s.s2, s.s3, s.s4, s.s5, s.s6, s.s7, w8, v9, w10, s.s11, s.s12⟩) X k8 k10 (colInv_of X hq)) ?_
  rintro r _ ⟨hr, v5, u10, rfl, h5, l10⟩
  refine Tr.bind (colOut_spec (s := ⟨s.s1, s.s2, s.s3, s.s4, v5, s.s6, s.s7, w8, v9, u10, s.s11, s.s12⟩) i hi hr) ?_
  rintro _ _ ⟨v12, rfl, h12⟩
  refine Tr.bind (rowOut_spec (s := ⟨s.s1, s.s2, s.s3, s.s4, v5, s.s6, s.s7, w8, v9, u10, s.s11, v12⟩) i hi l10) ?_
  rintro _ _ ⟨v11, rfl, h11⟩
  by_cases hk : k0_cond1 i = 1#1
  · rw [dif_pos hk]
    refine Tr.bind (tail_spec (s := ⟨s.s1, s.s2, s.s3, s.s4, v5, s.s6, s.s7, w8, v9, u10, v11, v12⟩)) ?_
    rintro _ _ ⟨v6, v7, rfl, h6, h7⟩
    exact Tr.pure ⟨v5, v6, v7, w8, v9, u10, v11, v12, rfl, h5, h11, h12, fun _ => ⟨h6, h7⟩, fun h => absurd hk h⟩
  · rw [dif_neg hk]
    exact Tr.pure ⟨v5, s.s6, s.s7, w8, v9, u10, v11, v12, rfl, h5, h11, h12, fun h => absurd h hk, fun _ => ⟨rfl, rfl⟩⟩

end Cert.KernelIdeal.Own
-- ==== Proof.BodyEq.lean ====
module

public import proofs.«01_k».proof.Proof.Struct
public import Idealize.ShloMosaic.Lib.Pipeline.Regions

@[expose] public section
noncomputable section
namespace Cert.KernelIdeal.Own

open Idealize.ShloMosaic Idealize.SL.Sem
open Cert.KernelIdeal Cert.KernelIdeal.Facts₀ Cert.KernelIdeal.Facts

variable {F : FTy → Type} [FloatOps F] [Named F] [Facts]

set_option maxRecDepth 100000 in
set_option maxHeartbeats 4000000 in
theorem body_eq (i : grid0.Coords) (hb : base8 i + 8 ≤ 16) (hi : pt i + 1 ≤ 16)
    (arg1 : Memref sig .tc .vmem S16x1200 .f32) (harg1 : arg1.IsWhole) (arg2 : Memref sig .tc .vmem S16x1344 .f32) (harg2 : arg2.IsWhole) (arg3 : Memref sig .tc .vmem S1x1200x256 .fp8e4m3) (harg3 : arg3.IsWhole) (arg4 : Memref sig .tc .vmem S1x1344x256 .fp8e4m3) (harg4 : arg4.IsWhole) (arg5 : Memref sig .tc .vmem S1x1200x1344 .bf16) (harg5 : arg5.IsWhole) (arg6 : Memref sig .tc .vmem S16x1200 .f32) (harg6 : arg6.IsWhole) (arg7 : Memref sig .tc .vmem S16x1344 .f32) (harg7 : arg7.IsWhole) (arg8 : Memref sig .tc .vmem S1200x1408 .f32) (harg8 : arg8.IsWhole) (arg9 : Memref sig .tc .vmem S1200x128 .f32) (harg9 : arg9.IsWhole) (arg10 : Memref sig .tc .vmem S1200x128 .f32) (harg10 : arg10.IsWhole) (arg11 : Memref sig .tc .vmem S16x1x1200 .f32) (harg11 : arg11.IsWhole) (arg12 : Memref sig .tc .vmem S16x1x1344 .f32) (harg12 : arg12.IsWhole) :
    cc0__body (F := F) i arg1 harg1 arg2 harg2 arg3 harg3 arg4 harg4 arg5 harg5 arg6 harg6 arg7 harg7 arg8 harg8 arg9 harg9 arg10 harg10 arg11 harg11 arg12 harg12
      = body i hb hi arg1 arg2 arg3 arg4 arg5 harg5 arg6 arg7 arg8 arg9 arg10 arg11 arg12 := by chain_rfl

end Cert.KernelIdeal.Own
-- ==== Proof.Pipe.lean ====
module

public import proofs.«01_k».proof.Proof.Run
public import proofs.«01_k».proof.Proof.BodyEq
public import proofs.«01_k».proof.Proof.Gen.KernelIdeal.Frame
public import Idealize.ShloMosaic.Lib.Claim
public import Idealize.ShloMosaic.Lib.Pipeline.ValueKit

/-!
The idealized kernel's whole grid: what each point leaves in its windows and in the scratch rows it carries, and what the three
result arrays hold at the end.
-/

@[expose] public section

set_option maxRecDepth 16384

noncomputable section

namespace Cert.KernelIdeal.Own

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

local notation "𝕄" => MT nD τ sig Unit (Elt Ideal) ℕ (UR sig nD τ) ℕ

/-! ## Arrays as tables over the naturals -/

def tab2 {a b : ℕ} (v : (M2 a b).Idx → EReal) (p q : ℕ) : EReal := if h : p < a ∧ q < b then v (ValueIdx.ix2 ⟨p, h.1⟩ ⟨q, h.2⟩) else ⊥
def tab3 {a b d : ℕ} (v : (M3 a b d).Idx → EReal) (p q r : ℕ) : EReal :=
  if h : p < a ∧ q < b ∧ r < d then v (ValueIdx.ix3 ⟨p, h.1⟩ ⟨q, h.2.1⟩ ⟨r, h.2.2⟩) else ⊥

theorem tab2_eq {a b : ℕ} (v : (M2 a b).Idx → EReal) (z : (M2 a b).Idx) {p q : ℕ} (h0 : (z 0).val = p) (h1 : (z 1).val = q) :
    v z = tab2 v p q := by
  subst h0 h1
  unfold tab2
  rw [dif_pos (show (z 0).val < a ∧ (z 1).val < b from ⟨(z 0).isLt, (z 1).isLt⟩)]
  exact congrArg v (ValueIdx.eq_ix2 z)
theorem tab3_eq {a b d : ℕ} (v : (M3 a b d).Idx → EReal) (z : (M3 a b d).Idx) {p q r : ℕ} (h0 : (z 0).val = p) (h1 : (z 1).val = q)
    (h2 : (z 2).val = r) : v z = tab3 v p q r := by
  subst h0 h1 h2
  unfold tab3
  rw [dif_pos (show (z 0).val < a ∧ (z 1).val < b ∧ (z 2).val < d from ⟨(z 0).isLt, (z 1).isLt, (z 2).isLt⟩)]
  exact congrArg v (ValueIdx.eq_ix3 z)

/-- The scores of one batch entry, in base two, from the four arrays. -/
def scoresOf (a0 : (M3 16 1200 256).Idx → EReal) (a1 : (M2 16 1200).Idx → EReal) (a2 : (M3 16 1344 256).Idx → EReal)
    (a3 : (M2 16 1344).Idx → EReal) (p : ℕ) : ℕ → ℕ → EReal :=
  scores (tab3 a0 p) (tab3 a2 p) (fun r => tab2 a1 p r * scl) (tab2 a3 p)

variable (m : (ℓ : Loc nD τ sig) → Buf (Elt Ideal) ℓ) (ρ : Dev nD → PrngReg)

/-- The confidences of batch entry `p`. -/
def out (c : Dev nD) (p : ℕ) : ℕ → ℕ → EReal :=
  conf (scoresOf (V m c main_arg0) (V m c main_arg1) (V m c main_arg2) (V m c main_arg3) p)

theorem idx0 : ∀ t : Fin grid0.N, win0_0.index t = ![0, 0] ∧ win0_1.index t = ![0, 0] ∧ win0_2.index t = ![t.val, 0, 0]
    ∧ win0_3.index t = ![t.val, 0, 0] ∧ win0_4.index t = ![t.val, 0, 0] ∧ win0_5.index t = ![0, 0] ∧ win0_6.index t = ![0, 0]
    ∧ (grid0.coords t 0).val = t.val := by decide +kernel

theorem blk0 (c : Dev nD) (t : Fin cfg0.N) (z : (M2 16 1200).Idx) :
    (iblk m c 0 t : (M2 16 1200).Idx → EReal) z = tab2 (V m c main_arg1 : (M2 16 1200).Idx → EReal) (z 0).val (z 1).val := by
  refine Eq.trans ?_ (tab2_eq _ z rfl rfl)
  blk_ext [iblk, V, idx0 t]
theorem blk1 (c : Dev nD) (t : Fin cfg0.N) (z : (M2 16 1344).Idx) :
    (iblk m c 1 t : (M2 16 1344).Idx → EReal) z = tab2 (V m c main_arg3 : (M2 16 1344).Idx → EReal) (z 0).val (z 1).val := by
  refine Eq.trans ?_ (tab2_eq _ z rfl rfl)
  blk_ext [iblk, V, idx0 t]
theorem blk2 (c : Dev nD) (t : Fin cfg0.N) (z : (M3 1 1200 256).Idx) :
    (iblk m c 2 t : (M3 1 1200 256).Idx → EReal) z = tab3 (V m c main_arg0 : (M3 16 1200 256).Idx → EReal) t.val (z 1).val (z 2).val := by
  have hN : t.val < 16 := lt_of_lt_of_eq t.isLt N_0
  refine Eq.trans ?_ (tab3_eq _ (ix3 ⟨t.val, hN⟩ (z 1) (z 2)) rfl rfl rfl)
  blk_ext [iblk, V, idx0 t]
theorem blk3 (c : Dev nD) (t : Fin cfg0.N) (z : (M3 1 1344 256).Idx) :
    (iblk m c 3 t : (M3 1 1344 256).Idx → EReal) z = tab3 (V m c main_arg2 : (M3 16 1344 256).Idx → EReal) t.val (z 1).val (z 2).val := by
  have hN : t.val < 16 := lt_of_lt_of_eq t.isLt N_0
  refine Eq.trans ?_ (tab3_eq _ (ix3 ⟨t.val, hN⟩ (z 1) (z 2)) rfl rfl rfl)
  blk_ext [iblk, V, idx0 t]

/-! ## What the points leave -/

abbrev scM0_0 : Memref sig .tc .vmem S1200x1408 .f32 := Memref.whole cc0_scratch0
abbrev scM0_1 : Memref sig .tc .vmem S1200x128 .f32 := Memref.whole cc0_scratch1
abbrev scM0_2 : Memref sig .tc .vmem S1200x128 .f32 := Memref.whole cc0_scratch2
abbrev scM0_3 : Memref sig .tc .vmem S16x1x1200 .f32 := Memref.whole cc0_scratch3
abbrev scM0_4 : Memref sig .tc .vmem S16x1x1344 .f32 := Memref.whole cc0_scratch4

/-- The first `n` rows of a scratch buffer hold the rows of `R`. -/
def Done {b : ℕ} (R : ℕ → ℕ → EReal) (n : ℕ) (v : (M3 16 1 b).Idx → EReal) : Prop :=
  ∀ z, (z 0).val < n → v z = R (z 0).val (z 2).val

/-- Before point `n`: the scores' scratch at anything, the two result scratches filled up to row `n`. -/
def PhiS (c : Dev nD) (n : ℕ) : sProp 𝕄 :=
  iprop((∃ d, owns (c : Thread nD τ) scM0_0 fullShare d) ∗ (∃ d, owns (c : Thread nD τ) scM0_1 fullShare d) ∗ (∃ d, owns (c : Thread nD τ) scM0_2 fullShare d)
    ∗ (∃ d, ⌜Done (fun p => rowTop (out m c p)) n d⌝ ∗ owns (c : Thread nD τ) scM0_3 fullShare d)
    ∗ (∃ d, ⌜Done (fun p => colTop (out m c p)) n d⌝ ∗ owns (c : Thread nD τ) scM0_4 fullShare d)
    ∗ (∃ r, prngReg c r))

def dats (_ : Fin 1) (c : Dev nD) : Dat τ (Elt Ideal) Unit ℕ (UR sig nD τ) ℕ cfg0 c where
  A w := V m c (Pipeline.arrRef spec0 w)
  after w t :=
    match w with
    | ⟨0, _⟩ => iblk m c 0 t
    | ⟨1, _⟩ => iblk m c 1 t
    | ⟨2, _⟩ => iblk m c 2 t
    | ⟨3, _⟩ => iblk m c 3 t
    | ⟨4, _⟩ => fun z => out m c t.val (z 1).val (z 2).val
    | ⟨5, _⟩ => fun z => rowTop (out m c (z 0).val) (z 1).val
    | ⟨6, _⟩ => fun z => colTop (out m c (z 0).val) (z 1).val
  Φ t := PhiS m c t.val
  q _ := fullShare
  owed _ := 0

theorem A_eq (c : Dev nD) (w : Fin cfg0.W) : (dats m 0 c).A w = V m c (Pipeline.arrRef spec0 w) := by
  dsimp only [dats]
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = fun z => out m c t.val (z 1).val (z 2).val := by dsimp only [dats]
theorem after0_5 (c : Dev nD) (t : Fin cfg0.N) : (dats m 0 c).after 5 t = fun z => rowTop (out m c (z 0).val) (z 1).val := by dsimp only [dats]
theorem after0_6 (c : Dev nD) (t : Fin cfg0.N) : (dats m 0 c).after 6 t = fun z => colTop (out m c (z 0).val) (z 1).val := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

theorem hcond0_0 : ∀ t : Fin cfg0.N, k0_cond1 (grid0.coords t) = 1#1 ↔ t.val % 16 = 15 :=
  (fun t => by
    have ht : t.val < 16 := Nat.lt_of_lt_of_eq t.isLt N_0
    have e0 : (grid0.coords t 0).val = t.val / 1 % 16 := Pipeline.Grid.coords_val t 0 (by decide) rfl
    simp only [k0_cond1, e0]
    word_cmp
   : ∀ t : Fin grid0.N, k0_cond1 (grid0.coords t) = 1#1 ↔ t.val % 16 = 15)

theorem base8_le (i : grid0.Coords) : base8 i + 8 ≤ 16 := by
  have hi : (i 0).val < 16 := (i 0).isLt
  unfold base8
  generalize (i 0).val = v at hi
  interval_cases v <;> decide
theorem pt_le (i : grid0.Coords) : pt i + 1 ≤ 16 := by
  have hi : (i 0).val < 16 := (i 0).isLt
  rw [pt_eq]; omega

abbrev ms0_0 (t : Fin cfg0.N) : Memref sig .tc .vmem S16x1200 .f32 := win0_0.stage (cfg0.slots t 0)
abbrev ms0_1 (t : Fin cfg0.N) : Memref sig .tc .vmem S16x1344 .f32 := win0_1.stage (cfg0.slots t 1)
abbrev ms0_2 (t : Fin cfg0.N) : Memref sig .tc .vmem S1x1200x256 .fp8e4m3 := win0_2.stage (cfg0.slots t 2)
abbrev ms0_3 (t : Fin cfg0.N) : Memref sig .tc .vmem S1x1344x256 .fp8e4m3 := win0_3.stage (cfg0.slots t 3)
abbrev ms0_4 (t : Fin cfg0.N) : Memref sig .tc .vmem S1x1200x1344 .bf16 := win0_4.stage (cfg0.slots t 4)
abbrev ms0_5 (t : Fin cfg0.N) : Memref sig .tc .vmem S16x1200 .f32 := win0_5.stage (cfg0.slots t 5)
abbrev ms0_6 (t : Fin cfg0.N) : Memref sig .tc .vmem S16x1344 .f32 := win0_6.stage (cfg0.slots t 6)

/-- The buffers of point `t`. -/
abbrev bufs (t : Fin cfg0.N) : Bufs :=
  ⟨ms0_0 t, ms0_1 t, ms0_2 t, ms0_3 t, ms0_4 t, ms0_5 t, ms0_6 t, scM0_0, scM0_1, scM0_2, scM0_3, scM0_4⟩

theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d)) ∗ (∃ r, prngReg c r)) := by
  unfold Pipeline.ΦA; rw [scopedRest0_eq]; simp only [scM0_0, scM0_1, scM0_2, scM0_3, scM0_4, owns_whole]; try rfl

theorem hin (c : Dev nD) : Pipeline.ΦA spec0 c ⊢ (dats m 0 c).Φ 0 := by
  rw [PhiA0_eq]
  show _ ⊢ PhiS m c 0
  unfold PhiS
  iintro ⟨⟨H0, H1, H2, ⟨%d3, H3⟩, ⟨%d4, H4⟩⟩, Hg⟩
  isplitl [H0]; · iexact H0
  isplitl [H1]; · iexact H1
  isplitl [H2]; · iexact H2
  isplitl [H3]
  · iexists d3
    isplitr; · ipureintro; exact fun z h => absurd h (Nat.not_lt_zero _)
    iexact H3
  isplitl [H4]
  · iexists d4
    isplitr; · ipureintro; exact fun z h => absurd h (Nat.not_lt_zero _)
    iexact H4
  iexact Hg

theorem hout (c : Dev nD) : (dats m 0 c).Φ (Fin.last cfg0.N) ⊢ Pipeline.ΦA spec0 c := by
  rw [PhiA0_eq]
  show PhiS m c _ ⊢ _
  unfold PhiS
  iintro ⟨H0, H1, H2, ⟨%d3, -, H3⟩, ⟨%d4, -, H4⟩, Hg⟩
  isplitl [H0 H1 H2 H3 H4]
  · isplitl [H0]; · iexact H0
    isplitl [H1]; · iexact H1
    isplitl [H2]; · iexact H2
    isplitl [H3]; · iexists d3; iexact H3
    iexists d4; iexact H4
  iexact Hg

/-! ## One point -/

theorem Φ_before (c : Dev nD) (t : Fin cfg0.N) : (dats m 0 c).Φ t.castSucc = PhiS m c t.val := by
  dsimp only [dats]
  exact Pipeline.Dat.Φ_castSucc (fun n _ => PhiS m c n) t
theorem Φ_after (c : Dev nD) (t : Fin cfg0.N) : (dats m 0 c).Φ t.succ = PhiS m c (t.val + 1) := by
  dsimp only [dats]
  exact congrArg (PhiS m c) (Fin.val_succ t)

/-- One more row done. -/
theorem Done.succ {b : ℕ} {R : ℕ → ℕ → EReal} {n : ℕ} {v w : (M3 16 1 b).Idx → EReal} (h : Done R n v)
    (hw : ∀ z, w z = if (z 0).val = n then R n (z 2).val else v z) : Done R (n + 1) w := fun z hz => by
  rw [hw]
  split_ifs with e
  · rw [e]
  · exact h z (by omega)

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d)))
/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t)

/-- A result window written at the last point only: there it holds its rows, elsewhere what it held. -/
theorem leaves5 (c : Dev nD) (t : Fin cfg0.N) (d) (v : (M2 16 1200).Idx → EReal)
    (h1 : k0_cond1 (grid0.coords t) = 1#1 → ∀ z, v z = rowTop (out m c (z 0).val) (z 1).val)
    (h2 : ¬ k0_cond1 (grid0.coords t) = 1#1 → v = (dats m 0 c).before 5 t d) :
    owns (c : Thread nD τ) (ms0_5 t) fullShare v ⊢ (dats m 0 c).leavesExact 5 t := by
  unfold Dat.leavesExact
  by_cases h : k0_cond1 (grid0.coords t) = 1#1
  · rw [show cfg0.idle 5 (cfg0.grid.coords t) = false by
      show (!(k0_cond1 (grid0.coords t) == 1#1)) = false; rw [h]; rfl]
    rw [show v = (dats m 0 c).after 5 t from by rw [after0_5]; exact funext (h1 h)]
  · rw [show cfg0.idle 5 (cfg0.grid.coords t) = true by
      show (!(k0_cond1 (grid0.coords t) == 1#1)) = true
      rw [Bool.not_eq_true', beq_eq_false_iff_ne]; exact h]
    rw [show (cfg0.win 5).flush t = false from by
      have := hcond0_0 t
      have := flush0_5 t
      rw [← Bool.not_eq_true]; tauto]
    rw [h2 h]
    iintro H
    iexists d
    iexact H
theorem leaves6 (c : Dev nD) (t : Fin cfg0.N) (d) (v : (M2 16 1344).Idx → EReal)
    (h1 : k0_cond1 (grid0.coords t) = 1#1 → ∀ z, v z = colTop (out m c (z 0).val) (z 1).val)
    (h2 : ¬ k0_cond1 (grid0.coords t) = 1#1 → v = (dats m 0 c).before 6 t d) :
    owns (c : Thread nD τ) (ms0_6 t) fullShare v ⊢ (dats m 0 c).leavesExact 6 t := by
  unfold Dat.leavesExact
  by_cases h : k0_cond1 (grid0.coords t) = 1#1
  · rw [show cfg0.idle 6 (cfg0.grid.coords t) = false by
      show (!(k0_cond1 (grid0.coords t) == 1#1)) = false; rw [h]; rfl]
    rw [show v = (dats m 0 c).after 6 t from by rw [after0_6]; exact funext (h1 h)]
  · rw [show cfg0.idle 6 (cfg0.grid.coords t) = true by
      show (!(k0_cond1 (grid0.coords t) == 1#1)) = true
      rw [Bool.not_eq_true', beq_eq_false_iff_ne]; exact h]
    rw [show (cfg0.win 6).flush t = false from by
      have := hcond0_0 t
      have := flush0_6 t
      rw [← Bool.not_eq_true]; tauto]
    rw [h2 h]
    iintro H
    iexists d
    iexact H

end Cert.KernelIdeal.Own
-- ==== Proof.Point.lean ====
module

public import proofs.«01_k».proof.Proof.Pipe

/-!
The idealized kernel at one grid point, its run over the grid, and the arrays it leaves.
-/

@[expose] public section

set_option maxRecDepth 16384

noncomputable section

namespace Cert.KernelIdeal.Own

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

local notation "𝕄" => MT nD τ sig Unit (Elt Ideal) ℕ (UR sig nD τ) ℕ

variable (m : (ℓ : Loc nD τ sig) → Buf (Elt Ideal) ℓ) (ρ : Dev nD → PrngReg)

theorem harg5 (t : Fin cfg0.N) : (bufs t).arg5.IsWhole := hstage0_4 ((cfg0.slots t 4).cast nbuf0_4)

theorem bodyAt_eq (t : Fin cfg0.N) : bodyAt0 (F := Ideal) t = (body (grid0.coords t) (base8_le _) (pt_le _) (bufs t).arg1 (bufs t).arg2 (bufs t).arg3 (bufs t).arg4 (bufs t).arg5 (harg5 t)
      (bufs t).arg6 (bufs t).arg7 (bufs t).arg8 (bufs t).arg9 (bufs t).arg10 (bufs t).arg11 (bufs t).arg12).bind Prog.ret := by
  unfold bodyAt0
  rw [body_eq (F := Ideal) (grid0.coords t) (base8_le _) (pt_le _)]
  exact (Prog.bind_pure _).symm

theorem point_post (c : Dev nD) (t : Fin cfg0.N) (d5 d6 e3 e4)
    (k3 : Done (fun p => rowTop (out m c p)) t.val e3) (k4 : Done (fun p => colTop (out m c p)) t.val e4) (v5 v6 v7 v8 v9 v10 v11 v12)
    (h5 : ∀ z, v5 z = out m c t.val (z 1).val (z 2).val)
    (h11 : ∀ z, v11 z = if (z 0).val = t.val then rowTop (out m c t.val) (z 2).val else e3 z)
    (h12 : ∀ z, v12 z = if (z 0).val = t.val then colTop (out m c t.val) (z 2).val else e4 z)
    (h6 : k0_cond1 (grid0.coords t) = 1#1 → (∀ z, v6 z = v11 (ValueIdx.ix3 (z 0) 0 (z 1))) ∧ (∀ z, v7 z = v12 (ValueIdx.ix3 (z 0) 0 (z 1))))
    (h7 : ¬ k0_cond1 (grid0.coords t) = 1#1 → v6 = (dats m 0 c).before 5 t d5 ∧ v7 = (dats m 0 c).before 6 t d6) :
    iprop(Held c (bufs t) ⟨iblk m c 0 t, iblk m c 1 t, iblk m c 2 t, iblk m c 3 t, v5, v6, v7, v8, v9, v10, v11, v12⟩
        ∗ ((dats m 0 c).owesAt () t.castSucc ∗ (∃ r, prngReg c r))) ⊢ bodyPost m c t := by
  have hN : t.val < 16 := lt_of_lt_of_eq t.isLt N_0
  have k11 : Done (fun p => rowTop (out m c p)) (t.val + 1) v11 := k3.succ h11
  have k12 : Done (fun p => colTop (out m c p)) (t.val + 1) v12 := k4.succ h12
  have hlast : k0_cond1 (grid0.coords t) = 1#1 → t.val + 1 = 16 := fun h => by
    have := (hcond0_0 t).mp h; omega
  unfold Held bodyPost
  rw [Φ_after, show (dats m 0 c).owesAt () t.succ = (dats m 0 c).owesAt () t.castSucc from rfl]
  unfold PhiS
  rw [show (dats m 0 c).leavesExact 0 t = owns (c : Thread nD τ) (ms0_0 t) fullShare (iblk m c 0 t) from by
      rw [← after0_0],
    show (dats m 0 c).leavesExact 1 t = owns (c : Thread nD τ) (ms0_1 t) fullShare (iblk m c 1 t) from by
      rw [← after0_1],
    show (dats m 0 c).leavesExact 2 t = owns (c : Thread nD τ) (ms0_2 t) fullShare (iblk m c 2 t) from by
      rw [← after0_2],
    show (dats m 0 c).leavesExact 3 t = owns (c : Thread nD τ) (ms0_3 t) fullShare (iblk m c 3 t) from by
      rw [← after0_3],
    show (dats m 0 c).leavesExact 4 t = owns (c : Thread nD τ) (ms0_4 t) fullShare v5 from by
      rw [show v5 = (dats m 0 c).after 4 t from by rw [after0_4]; exact funext h5]]
  have l5 := leaves5 m c t d5 v6 (fun h z => by
    rw [(h6 h).1 z]
    exact k11 _ (by rw [hlast h]; exact (z 0).isLt)) (fun h => (h7 h).1)
  have l6 := leaves6 m c t d6 v7 (fun h z => by
    rw [(h6 h).2 z]
    exact k12 _ (by rw [hlast h]; exact (z 0).isLt)) (fun h => (h7 h).2)
  iintro ⟨⟨H0, H1, H2, H3, H4, H5, H6, HS0, HS1, HS2, HS3, HS4⟩, Ho, Hg⟩
  isplitl [HS0 HS1 HS2 HS3 HS4 Hg]
  · isplitl [HS0]; · iexists _; iexact HS0
    isplitl [HS1]; · iexists _; iexact HS1
    isplitl [HS2]; · iexists _; iexact HS2
    isplitl [HS3]
    · iexists v11
      isplitr; · ipureintro; exact k11
      iexact HS3
    isplitl [HS4]
    · iexists v12
      isplitr; · ipureintro; exact k12
      iexact HS4
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iapply l5; iexact H5
  iapply l6; iexact H6

theorem body_run (c : Dev nD) (A : Bufs) (i : grid0.Coords) (hb : base8 i + 8 ≤ 16) (hi : pt i + 1 ≤ 16) {harg5 : A.arg5.IsWhole}
    {n : ℕ} (hn : (i 0).val = n) {s : St} {f0 f1 S0 S1 : ℕ → ℕ → EReal}
    (h1 : ∀ z, s.s1 z = S0 (z 0).val (z 1).val) (h2 : ∀ z, s.s2 z = S1 (z 0).val (z 1).val)
    (h3 : ∀ z, s.s3 z = f0 (z 1).val (z 2).val) (h4 : ∀ z, s.s4 z = f1 (z 1).val (z 2).val)
    {O : ℕ → ℕ → EReal} (hO : conf (scores f0 f1 (fun r => S0 n r * scl) (S1 n)) = O) (R K : sProp 𝕄)
    (hK : ∀ v5 v6 v7 v8 v9 v10 v11 v12, (∀ z, v5 z = O (z 1).val (z 2).val) →
        (∀ z, v11 z = if (z 0).val = n then rowTop O (z 2).val else s.s11 z) →
        (∀ z, v12 z = if (z 0).val = n then colTop O (z 2).val else s.s12 z) →
        (k0_cond1 i = 1#1 → (∀ z, v6 z = v11 (ValueIdx.ix3 (z 0) 0 (z 1))) ∧ (∀ z, v7 z = v12 (ValueIdx.ix3 (z 0) 0 (z 1)))) →
        (¬ k0_cond1 i = 1#1 → v6 = s.s6 ∧ v7 = s.s7) →
        iprop(Held c A ⟨s.s1, s.s2, s.s3, s.s4, v5, v6, v7, v8, v9, v10, v11, v12⟩ ∗ R) ⊢ K) :
    iprop(Held c A s ∗ R) ⊢ wp frame (wpE (defs₀ (F := Ideal)) Variants.none c none) Set.univ
      ((body i hb hi A.arg1 A.arg2 A.arg3 A.arg4 A.arg5 harg5 A.arg6 A.arg7 A.arg8 A.arg9 A.arg10 A.arg11 A.arg12).bind Prog.ret) (fun _ => K) := by
  subst hn hO
  refine body_spec i hb hi h1 h2 h3 h4 rfl Set.univ R Prog.ret _ ?_
  rintro _ _ ⟨v5, v6, v7, v8, v9, v10, v11, v12, rfl, h5, h11, h12, h6, h7⟩
  rw [wp_ret]
  exact (hK v5 v6 v7 v8 v9 v10 v11 v12 h5 h11 h12 h6 h7).trans fupd_intro

/-- The body at point `t` on named contents. -/
theorem point (c : Dev nD) (t : Fin cfg0.N) (d4 d5 d6 e0 e1 e2 e3 e4)
    (k3 : Done (fun p => rowTop (out m c p)) t.val e3) (k4 : Done (fun p => colTop (out m c p)) t.val e4) :
    iprop(Held c (bufs t) ⟨iblk m c 0 t, iblk m c 1 t, iblk m c 2 t, iblk m c 3 t, d4, (dats m 0 c).before 5 t d5, (dats m 0 c).before 6 t d6, e0, e1, e2, e3, e4⟩
        ∗ ((dats m 0 c).owesAt () t.castSucc ∗ (∃ r, prngReg c r)))
      ⊢ wp frame (wpE (defs₀ (F := Ideal)) Variants.none c none) Set.univ ((body (grid0.coords t) (base8_le _) (pt_le _) (bufs t).arg1 (bufs t).arg2 (bufs t).arg3 (bufs t).arg4 (bufs t).arg5 (harg5 t)
      (bufs t).arg6 (bufs t).arg7 (bufs t).arg8 (bufs t).arg9 (bufs t).arg10 (bufs t).arg11 (bufs t).arg12).bind Prog.ret) (fun _ => bodyPost m c t) :=
  body_run c (bufs t) (grid0.coords t) (base8_le _) (pt_le _) (harg5 := harg5 t) (idx0 t).2.2.2.2.2.2.2
    (s := ⟨iblk m c 0 t, iblk m c 1 t, iblk m c 2 t, iblk m c 3 t, d4, (dats m 0 c).before 5 t d5, (dats m 0 c).before 6 t d6, e0, e1, e2, e3, e4⟩)
    (f0 := tab3 (V m c main_arg0 : (M3 16 1200 256).Idx → EReal) t.val) (f1 := tab3 (V m c main_arg2 : (M3 16 1344 256).Idx → EReal) t.val)
    (S0 := tab2 (V m c main_arg1 : (M2 16 1200).Idx → EReal)) (S1 := tab2 (V m c main_arg3 : (M2 16 1344).Idx → EReal))
    (blk0 m c t) (blk1 m c t) (blk2 m c t) (blk3 m c t) (O := out m c t.val) rfl _ _
    fun v5 v6 v7 v8 v9 v10 v11 v12 h5 h11 h12 h6 h7 =>
      point_post m c t d5 d6 e3 e4 k3 k4 v5 v6 v7 v8 v9 v10 v11 v12 h5 h11 h12 h6 h7

theorem sound_body (c : Dev nD) (t : Fin cfg0.N) :
    bodyPre m c t ⊢ wp frame (wpE (defs₀ (F := Ideal)) Variants.none c none) Set.univ (bodyAt0 t) (fun _ => bodyPost m c t) := by
  unfold bodyPre
  simp only [before0_0, before0_1, before0_2, before0_3]
  rw [Φ_before]
  unfold PhiS
  iintro ⟨⟨⟨%e0, HS0⟩, ⟨%e1, HS1⟩, ⟨%e2, HS2⟩, ⟨%e3, %k3, HS3⟩, ⟨%e4, %k4, HS4⟩, Hg⟩, Ho, ⟨%d0, H0⟩, ⟨%d1, H1⟩, ⟨%d2, H2⟩, ⟨%d3, H3⟩, ⟨%d4, H4⟩, ⟨%d5, H5⟩, ⟨%d6, H6⟩⟩
  rw [bodyAt_eq]
  iapply (point m c t ((dats m 0 c).before 4 t d4) d5 d6 e0 e1 e2 e3 e4 k3 k4)
  isplitl [H0 H1 H2 H3 H4 H5 H6 HS0 HS1 HS2 HS3 HS4]
  · unfold Held
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [HS0]; · iexact HS0
    isplitl [HS1]; · iexact HS1
    isplitl [HS2]; · iexact HS2
    isplitl [HS3]; · iexact HS3
    iexact HS4
  isplitl [Ho]; · iexact Ho
  iexact Hg

theorem defs₀_row (t : Fin cfg0.N) :
    defs₀ (F := Ideal) .tc cfg0.body (cfg0.bodyArgs t (cfg0.slots t)) = bodyAt0 t := by
  unfold defs₀; rw [Defs.onTc_tc]

theorem body_obligation (c : Dev nD) : BodyObligation (dats m 0 c) (defs₀ (F := Ideal)) Variants.none () Set.univ := fun t => by
  rw [bigSep_W0, bigSep_W0, defs₀_row]
  exact triple_restated (sound_body m c t) rfl .rfl fun _ => .rfl

/-! ## The run -/

set_option backward.isDefEq.respectTransparency.types false in
theorem run_quiescent : θ_run defs (onTc (τ := τ) (main (F := Ideal))) (s₀ m ρ) (fun r => Pipeline.FramePost cfgs (dats m) 0 (V m) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

theorem run : θ_run defs (onTc (τ := τ) (main (F := Ideal))) (s₀ m ρ) (Pipeline.FramePost cfgs (dats m) 0 (V m)) :=
  (θ_run defs _ _).mono (fun _ h => h.1) (run_quiescent m ρ)

theorem frame : θ_run defs (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (frame_of m ρ (dats m) (A_eq m) (run m ρ)) ((θ_run defs _ _).mono (fun _ h => h.2) (run_quiescent m ρ))

/-! ## The result arrays -/

theorem arr4 (c : Dev nD) : (dats m 0 c).arrAt 4 (cfgs 0).N
    = fun z : (M3 16 1200 1344).Idx => out m c (z 0).val (z 1).val (z 2).val := by
  refine (dats m 0 c).arrAt_eq_of_covers 4 _ (by decide +kernel) fun t hf y => ?_
  blk_simp
  rw [after0_4]
  blk_simp [idx0 t]
theorem arr5 (c : Dev nD) : (dats m 0 c).arrAt 5 (cfgs 0).N
    = fun z : (M2 16 1200).Idx => rowTop (out m c (z 0).val) (z 1).val := by
  refine (dats m 0 c).arrAt_eq_of_after_last 5 t0_15 (by decide +kernel) _ fun j => ?_
  blk_simp
  rw [after0_5]
theorem arr6 (c : Dev nD) : (dats m 0 c).arrAt 6 (cfgs 0).N
    = fun z : (M2 16 1344).Idx => colTop (out m c (z 0).val) (z 1).val := by
  refine (dats m 0 c).arrAt_eq_of_after_last 6 t0_15 (by decide +kernel) _ fun j => ?_
  blk_simp
  rw [after0_6]

end Cert.KernelIdeal.Own
-- ==== Proof.Eqn.lean ====
module

public import proofs.«01_k».proof.Proof.Passes

/-!
The equation between the two programs' confidences, over tables of extended reals: a softmax taken with powers of two over
scores scaled by `log₂ e`, padded with `-∞`, is the softmax taken with exponentials over the scores themselves.
-/

@[expose] public section

noncomputable section

namespace Cert.KernelIdeal.Own

open Idealize.ShloMosaic

/-! ## The reference's functions of a table of scores -/

variable (Y : ℕ → ℕ → EReal)

def rTop (r : ℕ) : EReal := (Finset.range 1344).sup (Y r)
def cTop (c : ℕ) : EReal := (Finset.range 1200).sup fun r => Y r c
def rExp (r c : ℕ) : EReal := Ideal.exp (Y r c - rTop Y r)
def cExp (r c : ℕ) : EReal := Ideal.exp (Y r c - cTop Y c)
def rProb (r c : ℕ) : EReal := rExp Y r c * Ideal.div 1 (∑ c' ∈ Finset.range 1344, rExp Y r c')
def cProb (r c : ℕ) : EReal := cExp Y r c * Ideal.div 1 (∑ r' ∈ Finset.range 1200, cExp Y r' c)
/-- The reference's confidences. -/
def prob (r c : ℕ) : EReal := rProb Y r c * cProb Y r c

/-! ## Scaling by a positive real -/

section Scale
variable {L : ℝ} (hL : 0 < L)
include hL

theorem scale_mono : Monotone fun y : EReal => (L : EReal) * y := fun x y h =>
  mul_le_mul_of_nonneg_left h (by exact_mod_cast hL.le)

theorem scale_sup (s : Finset ℕ) (f : ℕ → EReal) : s.sup (fun i => (L : EReal) * f i) = (L : EReal) * s.sup f :=
  (Finset.comp_sup_eq_sup_comp_of_is_total (fun y : EReal => (L : EReal) * y) (scale_mono hL) (EReal.coe_mul_bot_of_pos hL)).symm

theorem scale_sub (y t : EReal) : (L : EReal) * y - L * t = L * (y - t) := by
  induction y using EReal.rec <;> induction t using EReal.rec <;>
    simp [EReal.coe_mul_bot_of_pos hL, EReal.coe_mul_top_of_pos hL, ← EReal.coe_mul, ← EReal.coe_sub, mul_sub, EReal.sub_bot, EReal.sub_top, EReal.top_sub_coe, EReal.bot_sub, EReal.coe_sub_bot]

end Scale

theorem log_pos : 0 < (Real.log 2)⁻¹ := inv_pos.2 (Real.log_pos one_lt_two)

theorem exp2_scale (y : EReal) : Ideal.exp2 (((Real.log 2)⁻¹ : ℝ) * y) = Ideal.exp y := by
  induction y using EReal.rec with
  | bot => rw [EReal.coe_mul_bot_of_pos log_pos]; rfl
  | top => rw [EReal.coe_mul_top_of_pos log_pos]; rfl
  | coe y =>
    rw [← EReal.coe_mul, Ideal.exp2_coe, Ideal.exp_coe]
    congr 1
    show (2 : ℝ) ^ ((Real.log 2)⁻¹ * y) = _
    rw [Real.rpow_def_of_pos two_pos, mul_inv_cancel_left₀ (Real.log_pos one_lt_two).ne']

theorem exp_nonneg (y : EReal) : 0 ≤ Ideal.exp y := by
  induction y using EReal.rec with
  | bot => exact le_refl _
  | top => exact le_top
  | coe y => rw [Ideal.exp_coe]; exact_mod_cast (Real.exp_pos y).le

theorem inv_nonneg' {s : EReal} (hs : 0 ≤ s) : 0 ≤ Ideal.div 1 s := by
  unfold Ideal.div
  split_ifs
  · exact le_top
  · rename_i h; exact absurd zero_lt_one h
  · rw [one_mul]; exact EReal.inv_nonneg_of_nonneg hs

/-! ## The equation -/

section Same
variable (X : ℕ → ℕ → EReal)
  (hX : ∀ r c, c < 1344 → X r c = (((Real.log 2)⁻¹ : ℝ) : EReal) * Y r c) (hpad : ∀ r c, ¬ c < 1344 → X r c = ⊥)
include hX hpad

theorem rowTop_eq (r : ℕ) : rowTop X r = (((Real.log 2)⁻¹ : ℝ) : EReal) * rTop Y r := by
  unfold rowTop rTop
  rw [← scale_sup log_pos]
  refine le_antisymm (Finset.sup_le fun c _ => ?_) (Finset.sup_le fun c hc => ?_)
  · by_cases h : c < 1344
    · rw [hX r c h]; exact Finset.le_sup (f := fun c => _ * Y r c) (Finset.mem_range.2 h)
    · rw [hpad r c h]; exact bot_le
  · rw [← hX r c (Finset.mem_range.1 hc)]
    exact Finset.le_sup (Finset.mem_range.2 (lt_trans (Finset.mem_range.1 hc) (by decide)))

theorem rowExp_eq (r c : ℕ) (h : c < 1344) : rowExp X r c = rExp Y r c := by
  rw [rowExp, rExp, rowTop_eq Y X hX hpad, hX r c h, scale_sub log_pos, exp2_scale]

theorem rowExp_pad (r c : ℕ) (h : ¬ c < 1344) : rowExp X r c = 0 := by
  rw [rowExp, hpad r c h, EReal.bot_sub, Ideal.exp2_bot]

theorem rowInv_eq (r : ℕ) : rowInv X r = Ideal.div 1 (∑ c ∈ Finset.range 1344, rExp Y r c) := by
  unfold rowInv
  congr 1
  rw [← Finset.sum_subset (Finset.range_subset_range.2 (show 1344 ≤ 1408 by decide))
    fun c _ hc => rowExp_pad Y X hX hpad r c (fun h => hc (Finset.mem_range.2 h))]
  exact Finset.sum_congr rfl fun c hc => rowExp_eq Y X hX hpad r c (Finset.mem_range.1 hc)

theorem colTop_eq (c : ℕ) (h : c < 1344) : colTop X c = (((Real.log 2)⁻¹ : ℝ) : EReal) * cTop Y c := by
  unfold colTop cTop
  rw [← scale_sup log_pos]
  exact Finset.sup_congr rfl fun r _ => hX r c h

theorem colExp_eq (r c : ℕ) (h : c < 1344) : colExp X r c = cExp Y r c := by
  rw [colExp, cExp, colTop_eq Y X hX hpad c h, hX r c h, scale_sub log_pos, exp2_scale]

theorem colInvs_eq (c : ℕ) (h : c < 1344) : colInvs X c = Ideal.div 1 (∑ r ∈ Finset.range 1200, cExp Y r c) := by
  unfold colInvs
  exact congrArg _ (Finset.sum_congr rfl fun r _ => colExp_eq Y X hX hpad r c h)

/-- The confidences of the kernel are the reference's. -/
theorem conf_eq (r c : ℕ) (h : c < 1344) : conf X r c = prob Y r c := by
  rw [conf, bothExp, rowExp_eq Y X hX hpad r c h, colExp_eq Y X hX hpad r c h, rowInv_eq Y X hX hpad, colInvs_eq Y X hX hpad c h,
    prob, rProb, cProb, mul_assoc, mul_mul_mul_comm]

theorem conf_pad (r c : ℕ) (h : ¬ c < 1344) : conf X r c = 0 := by
  rw [conf, bothExp, rowExp_pad Y X hX hpad r c h, zero_mul, zero_mul, zero_mul]

theorem rowMax_eq (r : ℕ) : rowTop (conf X) r = (Finset.range 1344).sup (prob Y r) := by
  unfold rowTop
  refine le_antisymm (Finset.sup_le fun c _ => ?_) (Finset.sup_le fun c hc => ?_)
  · by_cases h : c < 1344
    · rw [conf_eq Y X hX hpad r c h]; exact Finset.le_sup (Finset.mem_range.2 h)
    · rw [conf_pad Y X hX hpad r c h]
      refine le_trans ?_ (Finset.le_sup (Finset.mem_range.2 (show 0 < 1344 by decide)))
      unfold prob rProb cProb
      exact mul_nonneg (mul_nonneg (exp_nonneg _) (inv_nonneg' (Finset.sum_nonneg fun _ _ => exp_nonneg _)))
        (mul_nonneg (exp_nonneg _) (inv_nonneg' (Finset.sum_nonneg fun _ _ => exp_nonneg _)))
  · rw [← conf_eq Y X hX hpad r c (Finset.mem_range.1 hc)]
    exact Finset.le_sup (Finset.mem_range.2 (lt_trans (Finset.mem_range.1 hc) (by decide)))

theorem colMax_eq (c : ℕ) (h : c < 1344) : colTop (conf X) c = (Finset.range 1200).sup fun r => prob Y r c :=
  Finset.sup_congr rfl fun r _ => conf_eq Y X hX hpad r c h

end Same

end Cert.KernelIdeal.Own

end
-- ==== Proof.Ref.lean ====
module

public import proofs.«01_k».proof.Proof.Gen.ReferenceIdeal.Value
public import proofs.«01_k».proof.Proof.Pipe
public import proofs.«01_k».proof.Proof.Eqn

/-!
The reference's three result arrays read at an index, over extended reals.
-/

@[expose] public section

noncomputable section

namespace Cert.ReferenceIdeal.Own

open Idealize.ShloMosaic
open Idealize.ShloMosaic.ValueIdx (contrEquiv1 contrEquiv1_symm_val)
open Cert.ReferenceIdeal Cert.ReferenceIdeal.Gen
open Cert.KernelIdeal.Own (M2 M3 tab2 tab3 tab2_eq tab3_eq rTop cTop rExp cExp rProb cProb prob ofBits_zero ofBits_one ofBits_bot)

/-! ## Vector operations at an index -/

section Ops
variable {α : Type} {a b d : ℕ}

theorem castCol (x : (M2 a b).Idx → α) (h : (M2 a b).ShapeCasts (M3 a b 1)) (y : (M3 a b 1).Idx) : shapeCast (M3 a b 1) x h y = x (ValueIdx.ix2 (y 0) (y 1)) := by
  refine shapeCast_apply x h y _ ?_
  have h2 : (y 2).val = 0 := Nat.lt_one_iff.1 (y 2).isLt
  rw [Shape.rowMajor_val_two, Shape.rowMajor_val_three]
  show (y 0).val * b + (y 1).val = ((y 0).val * b + (y 1).val) * 1 + (y 2).val
  rw [h2, Nat.mul_one, Nat.add_zero]

theorem castRow (x : (M2 a d).Idx → α) (h : (M2 a d).ShapeCasts (M3 a 1 d)) (y : (M3 a 1 d).Idx) : shapeCast (M3 a 1 d) x h y = x (ValueIdx.ix2 (y 0) (y 2)) := by
  refine shapeCast_apply x h y _ ?_
  have h1 : (y 1).val = 0 := Nat.lt_one_iff.1 (y 1).isLt
  rw [Shape.rowMajor_val_two, Shape.rowMajor_val_three]
  show (y 0).val * d + (y 2).val = ((y 0).val * 1 + (y 1).val) * d + (y 2).val
  rw [h1, Nat.mul_one, Nat.add_zero]

theorem bcCol3 (hb : b ≠ 1) (ha : a ≠ 1) (x : (M3 a b 1).Idx → α) (h : (M3 a b 1).Broadcasts (M3 a b d)) (y : (M3 a b d).Idx) :
    broadcastTo (M3 a b d) x h y = x (ValueIdx.ix3 (y 0) (y 1) 0) :=
  broadcastTo_apply x h y _ fun i => by
    match i with
    | 0 => exact (if_neg ha).symm
    | 1 => exact (if_neg hb).symm
    | 2 => rfl

theorem bcRow3 (ha : a ≠ 1) (hd : d ≠ 1) (x : (M3 a 1 d).Idx → α) (h : (M3 a 1 d).Broadcasts (M3 a b d)) (y : (M3 a b d).Idx) :
    broadcastTo (M3 a b d) x h y = x (ValueIdx.ix3 (y 0) 0 (y 2)) :=
  broadcastTo_apply x h y _ fun i => by
    match i with
    | 0 => exact (if_neg ha).symm
    | 1 => rfl
    | 2 => exact (if_neg hd).symm

theorem sup_range (n : ℕ) (f : ℕ → EReal) : ((Finset.univ : Finset (Fin n)).sup fun k => f k.val) = (Finset.range n).sup f :=
  eq_of_forall_ge_iff fun z => by
    simp only [Finset.sup_le_iff, Finset.mem_univ, Finset.mem_range, true_imp_iff]
    exact ⟨fun h c hc => h ⟨c, hc⟩, fun h k => h _ k.isLt⟩

variable (x : FVec Ideal (M3 a b d) .f32) (X : ℕ → ℕ → ℕ → EReal) (hX : ∀ z, x z = X (z 0).val (z 1).val (z 2).val)
include hX

theorem sumLast (h : (M3 a b d).Reduces [2] (M2 a b)) (hf : FKind.Formats .f32) (hacc : (0x00000000#32 : BitVec 32) = FKind.add.neutral .f32 hf)
    (y : (M2 a b).Idx) : multiReduction .add [2] (M2 a b) x 0x00000000#32 h hf hacc y = ∑ k ∈ Finset.range d, X (y 0).val (y 1).val k := by
  rw [Ideal.multiReduction_add_single, ← Fin.sum_univ_eq_sum_range]
  exact Finset.sum_congr rfl fun k _ => hX _
theorem sumMid (h : (M3 a b d).Reduces [1] (M2 a d)) (hf : FKind.Formats .f32) (hacc : (0x00000000#32 : BitVec 32) = FKind.add.neutral .f32 hf)
    (y : (M2 a d).Idx) : multiReduction .add [1] (M2 a d) x 0x00000000#32 h hf hacc y = ∑ k ∈ Finset.range b, X (y 0).val k (y 1).val := by
  rw [Ideal.multiReduction_add_single, ← Fin.sum_univ_eq_sum_range (fun k => X (y 0).val k (y 1).val)]
  exact Finset.sum_congr rfl fun k _ => hX _
theorem maxLast (h : (M3 a b d).Reduces [2] (M2 a b)) (hf : FKind.Formats .f32)
    (hacc : (0xFF800000#32 : BitVec 32) = FKind.maximumf.neutral .f32 hf) (y : (M2 a b).Idx) :
    multiReduction .maximumf [2] (M2 a b) x 0xFF800000#32 h hf hacc y = (Finset.range d).sup fun k => X (y 0).val (y 1).val k := by
  rw [Ideal.multiReduction_maximumf_single, ofBits_bot, ← sup_range]
  exact Finset.sup_congr rfl fun k _ => hX _
theorem maxMid (h : (M3 a b d).Reduces [1] (M2 a d)) (hf : FKind.Formats .f32)
    (hacc : (0xFF800000#32 : BitVec 32) = FKind.maximumf.neutral .f32 hf) (y : (M2 a d).Idx) :
    multiReduction .maximumf [1] (M2 a d) x 0xFF800000#32 h hf hacc y = (Finset.range b).sup fun k => X (y 0).val k (y 1).val := by
  rw [Ideal.multiReduction_maximumf_single, ofBits_bot, ← sup_range]
  exact Finset.sup_congr rfl fun k _ => hX _

end Ops

theorem ofBits_scale : (Scalar.ofBits (F := Ideal) .f32 0x3D200000#32 : EReal) = ((5 / 128 : ℝ) : EReal) := by
  show Ideal.ofBits .f32 0x3D200000#32 = _
  simp [Ideal.ofBits, Ideal.ieee]
  norm_cast
  norm_num

/-! ## The scores -/

variable (a0 : (M3 16 1200 256).Idx → EReal) (a1 : (M2 16 1200).Idx → EReal) (a2 : (M3 16 1344 256).Idx → EReal) (a3 : (M2 16 1344).Idx → EReal)

/-- The reference's scores of one batch entry. -/
def refScores (p r c : ℕ) : EReal :=
  (∑ k : Fin 256, tab3 a0 p r k.val * tab3 a2 p c k.val) * tab2 a1 p r * tab2 a3 p c * ((5 / 128 : ℝ) : EReal)

/-- The score vector as the reference computes it. -/
def sv : FVec Ideal S16x1200x1344 .f32 :=
  mulf (mulf (mulf (matmul (F := Ideal) (φ₁ := .fp8e4m3) (φ₂ := .fp8e4m3) dot_S16x1200x256_S16x1344x256_S16x1200x1344_2_2_1_1_0_0 none a0 a2 (constant S16x1200x1344 .f32 0x00000000#32))
      (broadcastTo S16x1200x1344 (shapeCast S16x1200x1 a1 shapeCasts_S16x1200_S16x1200x1) broadcasts_S16x1200x1_S16x1200x1344))
    (broadcastTo S16x1200x1344 (shapeCast S16x1x1344 a3 shapeCasts_S16x1344_S16x1x1344) broadcasts_S16x1x1344_S16x1200x1344))
    (broadcast S16x1200x1344 (Scalar.ofBits .f32 0x3D200000#32))

theorem dot_apply (z : (M3 16 1200 1344).Idx) :
    matmul (F := Ideal) (φ₁ := .fp8e4m3) (φ₂ := .fp8e4m3) dot_S16x1200x256_S16x1344x256_S16x1200x1344_2_2_1_1_0_0 none a0 a2 (constant S16x1200x1344 .f32 0x00000000#32) z
      = ∑ k : Fin 256, tab3 a0 (z 0).val (z 1).val k.val * tab3 a2 (z 0).val (z 2).val k.val := by
  refine Eq.trans (Ideal.matmul_constant_zero_apply (φ₁ := .fp8e4m3) (φ₂ := .fp8e4m3) _ none a0 a2 z) ?_
  rw [← Equiv.sum_comp (contrEquiv1 dot_S16x1200x256_S16x1344x256_S16x1200x1344_2_2_1_1_0_0 256 rfl rfl).symm]
  refine Finset.sum_congr rfl fun k _ => ?_
  have hk := contrEquiv1_symm_val dot_S16x1200x256_S16x1344x256_S16x1200x1344_2_2_1_1_0_0 256 rfl rfl k
  exact congrArg₂ (· * ·) (tab3_eq a0 _ rfl rfl hk) (tab3_eq a2 _ rfl rfl hk)

theorem sv_eq (z : (M3 16 1200 1344).Idx) : sv a0 a1 a2 a3 z = refScores a0 a1 a2 a3 (z 0).val (z 1).val (z 2).val := by
  show matmul (F := Ideal) (φ₁ := .fp8e4m3) (φ₂ := .fp8e4m3) dot_S16x1200x256_S16x1344x256_S16x1200x1344_2_2_1_1_0_0 none a0 a2 (constant S16x1200x1344 .f32 0x00000000#32) z
    * broadcastTo (M3 16 1200 1344) (shapeCast (M3 16 1200 1) a1 shapeCasts_S16x1200_S16x1200x1) broadcasts_S16x1200x1_S16x1200x1344 z
    * broadcastTo (M3 16 1200 1344) (shapeCast (M3 16 1 1344) a3 shapeCasts_S16x1344_S16x1x1344) broadcasts_S16x1x1344_S16x1200x1344 z
    * (Scalar.ofBits (F := Ideal) .f32 0x3D200000#32 : EReal) = _
  rw [dot_apply, bcCol3 (by decide) (by decide), bcRow3 (by decide) (by decide), castCol, castRow, ofBits_scale,
    tab2_eq a1 _ rfl rfl, tab2_eq a3 _ rfl rfl]
  rfl

/-! ## The two softmaxes -/

/-- The softmax along the last axis; along the middle one. -/
def expRow (s : FVec Ideal S16x1200x1344 .f32) : FVec Ideal S16x1200x1344 .f32 :=
  exp (subf s (broadcastTo S16x1200x1344 (shapeCast S16x1200x1
    (multiReduction .maximumf [2] S16x1200 s 0xFF800000#32 reduces_S16x1200x1344_S16x1200 (.inl rfl) rfl) shapeCasts_S16x1200_S16x1200x1) broadcasts_S16x1200x1_S16x1200x1344))
def softRow (s : FVec Ideal S16x1200x1344 .f32) : FVec Ideal S16x1200x1344 .f32 :=
  mulf (expRow s) (broadcastTo S16x1200x1344 (divf (broadcast S16x1200x1 (Scalar.ofBits .f32 0x3F800000#32)) (shapeCast S16x1200x1
    (multiReduction .add [2] S16x1200 (expRow s) 0x00000000#32 reduces_S16x1200x1344_S16x1200 (.inl rfl) rfl) shapeCasts_S16x1200_S16x1200x1)) broadcasts_S16x1200x1_S16x1200x1344)
def expCol (s : FVec Ideal S16x1200x1344 .f32) : FVec Ideal S16x1200x1344 .f32 :=
  exp (subf s (broadcastTo S16x1200x1344 (shapeCast S16x1x1344
    (multiReduction .maximumf [1] S16x1344 s 0xFF800000#32 reduces_S16x1200x1344_S16x1344 (.inl rfl) rfl) shapeCasts_S16x1344_S16x1x1344) broadcasts_S16x1x1344_S16x1200x1344))
def softCol (s : FVec Ideal S16x1200x1344 .f32) : FVec Ideal S16x1200x1344 .f32 :=
  mulf (expCol s) (broadcastTo S16x1200x1344 (divf (broadcast S16x1x1344 (Scalar.ofBits .f32 0x3F800000#32)) (shapeCast S16x1x1344
    (multiReduction .add [1] S16x1344 (expCol s) 0x00000000#32 reduces_S16x1200x1344_S16x1344 (.inl rfl) rfl) shapeCasts_S16x1344_S16x1x1344)) broadcasts_S16x1x1344_S16x1200x1344)

theorem pay3_split : k0_pay3 (F := Ideal) a0 a2 a1 a3 = mulf (softRow (sv a0 a1 a2 a3)) (softCol (sv a0 a1 a2 a3)) := rfl

section Soft
variable (s : FVec Ideal S16x1200x1344 .f32) (Y : ℕ → ℕ → ℕ → EReal)
  (hY : ∀ z : (M3 16 1200 1344).Idx, s z = Y (z 0).val (z 1).val (z 2).val)
include hY

theorem expRow_eq (z : (M3 16 1200 1344).Idx) : expRow s z = rExp (Y (z 0).val) (z 1).val (z 2).val := by
  refine congrArg Ideal.exp (congrArg₂ (fun x y : EReal => x - y) (hY z) ?_)
  exact ((bcCol3 (by decide) (by decide) _ _ z).trans (castCol _ _ _)).trans (maxLast s Y hY _ _ _ _)

theorem softRow_eq (z : (M3 16 1200 1344).Idx) : softRow s z = rProb (Y (z 0).val) (z 1).val (z 2).val := by
  refine congrArg₂ (fun x y : EReal => x * y) (expRow_eq s Y hY z) ((bcCol3 (by decide) (by decide) _ _ z).trans ?_)
  refine congrArg₂ Ideal.div ofBits_one ((castCol _ _ _).trans ?_)
  exact sumLast (expRow s) (fun p r c => rExp (Y p) r c) (expRow_eq s Y hY) _ _ _ _

theorem expCol_eq (z : (M3 16 1200 1344).Idx) : expCol s z = cExp (Y (z 0).val) (z 1).val (z 2).val := by
  refine congrArg Ideal.exp (congrArg₂ (fun x y : EReal => x - y) (hY z) ?_)
  exact ((bcRow3 (by decide) (by decide) _ _ z).trans (castRow _ _ _)).trans (maxMid s Y hY _ _ _ _)

theorem softCol_eq (z : (M3 16 1200 1344).Idx) : softCol s z = cProb (Y (z 0).val) (z 1).val (z 2).val := by
  refine congrArg₂ (fun x y : EReal => x * y) (expCol_eq s Y hY z) ((bcRow3 (by decide) (by decide) _ _ z).trans ?_)
  refine congrArg₂ Ideal.div ofBits_one ((castRow _ _ _).trans ?_)
  exact sumMid (expCol s) (fun p r c => cExp (Y p) r c) (expCol_eq s Y hY) _ _ _ _

end Soft

/-! ## The results -/

theorem pay3_eq (z : (M3 16 1200 1344).Idx) :
    k0_pay3 (F := Ideal) a0 a2 a1 a3 z = prob (refScores a0 a1 a2 a3 (z 0).val) (z 1).val (z 2).val := by
  rw [pay3_split]
  exact congrArg₂ (fun x y : EReal => x * y) (softRow_eq _ _ (sv_eq a0 a1 a2 a3) z) (softCol_eq _ _ (sv_eq a0 a1 a2 a3) z)

theorem pay5_eq (a0 : Vec Ideal S16x1200x256 .fp8e4m3) (a1 : Vec Ideal S16x1200 .f32) (a2 : Vec Ideal S16x1344x256 .fp8e4m3)
    (a3 : Vec Ideal S16x1344 .f32) : k0_pay5 a0 a1 a2 a3 = k0_pay3 a0 a2 a1 a3 := by
  unfold k0_pay5
  rw [View.ld_unit_zero (S := S16x1200x256) Value.hz0 _ a0, View.ld_unit_zero (S := S16x1344x256) Value.hz2 _ a2,
    View.ld_unit_zero (S := S16x1200) Value.hz1 _ a1, View.ld_unit_zero (S := S16x1344) Value.hz3 _ a3]

theorem G4_eq (z : (M3 16 1200 1344).Idx) :
    Value.G4 (F := Ideal) a0 a1 a2 a3 z = prob (refScores a0 a1 a2 a3 (z 0).val) (z 1).val (z 2).val := by
  unfold Value.G4
  rw [pay5_eq]
  exact pay3_eq a0 a1 a2 a3 z

theorem G5_eq (z : (M2 16 1200).Idx) :
    Value.G5 (F := Ideal) a0 a1 a2 a3 z = (Finset.range 1344).sup (prob (refScores a0 a1 a2 a3 (z 0).val) (z 1).val) := by
  unfold Value.G5 k0_pay4
  exact maxLast _ (fun p => prob (refScores a0 a1 a2 a3 p)) (pay3_eq a0 a1 a2 a3) _ _ _ z

theorem G6_eq (z : (M2 16 1344).Idx) :
    Value.G6 (F := Ideal) a0 a1 a2 a3 z = (Finset.range 1200).sup fun r => prob (refScores a0 a1 a2 a3 (z 0).val) r (z 1).val := by
  unfold Value.G6
  rw [pay5_eq]
  unfold k0_pay1
  exact maxMid _ (fun p => prob (refScores a0 a1 a2 a3 p)) (pay3_eq a0 a1 a2 a3) _ _ _ z

end Cert.ReferenceIdeal.Own

end
-- ==== Proof.Alg.lean ====
module

public import proofs.«01_k».proof.Defs
public import proofs.«01_k».proof.Proof.Point
public import proofs.«01_k».proof.Proof.Ref

/-!
The idealized kernel's three results are the reference's.
-/

@[expose] public section

noncomputable section

namespace Cert.Proof

open Idealize.ShloMosaic Idealize.SL.Sem
open Cert.KernelIdeal.Own
open Cert.ReferenceIdeal.Own (refScores G4_eq G5_eq G6_eq)

variable (a0 : (M3 16 1200 256).Idx → EReal) (a1 : (M2 16 1200).Idx → EReal) (a2 : (M3 16 1344 256).Idx → EReal) (a3 : (M2 16 1344).Idx → EReal)

theorem scl_eq : scl = (((Real.log 2)⁻¹ : ℝ) : EReal) * ((5 / 128 : ℝ) : EReal) := by
  rw [← EReal.coe_mul]
  rfl

/-- The kernel's scores are the reference's times `log₂ e` in the true columns. -/
theorem scores_eq (p r c : ℕ) (h : c < 1344) :
    scoresOf a0 a1 a2 a3 p r c = (((Real.log 2)⁻¹ : ℝ) : EReal) * refScores a0 a1 a2 a3 p r c := by
  rw [scoresOf, scores, if_pos h, refScores, scl_eq]
  ac_rfl

/-- In the padding they are `-∞`. -/
theorem scores_pad (p r c : ℕ) (h : ¬ c < 1344) : scoresOf a0 a1 a2 a3 p r c = ⊥ := by
  rw [scoresOf, scores, if_neg h]

theorem result4 : (fun z : (M3 16 1200 1344).Idx => conf (scoresOf a0 a1 a2 a3 (z 0).val) (z 1).val (z 2).val)
    = Cert.ReferenceIdeal.Value.G4 (F := Ideal) a0 a1 a2 a3 :=
  funext fun z => (conf_eq _ _ (scores_eq a0 a1 a2 a3 _) (scores_pad a0 a1 a2 a3 _) _ _ (z 2).isLt).trans (G4_eq a0 a1 a2 a3 z).symm
theorem result5 : (fun z : (M2 16 1200).Idx => rowTop (conf (scoresOf a0 a1 a2 a3 (z 0).val)) (z 1).val)
    = Cert.ReferenceIdeal.Value.G5 (F := Ideal) a0 a1 a2 a3 :=
  funext fun z => (rowMax_eq _ _ (scores_eq a0 a1 a2 a3 _) (scores_pad a0 a1 a2 a3 _) _).trans (G5_eq a0 a1 a2 a3 z).symm
theorem result6 : (fun z : (M2 16 1344).Idx => colTop (conf (scoresOf a0 a1 a2 a3 (z 0).val)) (z 1).val)
    = Cert.ReferenceIdeal.Value.G6 (F := Ideal) a0 a1 a2 a3 :=
  funext fun z => (colMax_eq _ _ (scores_eq a0 a1 a2 a3 _) (scores_pad a0 a1 a2 a3 _) _ (z 1).isLt).trans (G6_eq a0 a1 a2 a3 z).symm

theorem algebraic : Cert.algebraic_KernelIdeal_ReferenceIdeal (hKernelIdeal := Cert.KernelIdeal.Gen.facts) (hReferenceIdeal := Cert.ReferenceIdeal.Gen.facts) := by
  intro m g m' g' _ hm
  refine ⟨fun c => Cert.ReferenceIdeal.Value.G4 (F := Ideal) (m (c.tc.loc Cert.KernelIdeal.main_arg0)) (m (c.tc.loc Cert.KernelIdeal.main_arg1)) (m (c.tc.loc Cert.KernelIdeal.main_arg2)) (m (c.tc.loc Cert.KernelIdeal.main_arg3)),
    fun c => Cert.ReferenceIdeal.Value.G5 (F := Ideal) (m (c.tc.loc Cert.KernelIdeal.main_arg0)) (m (c.tc.loc Cert.KernelIdeal.main_arg1)) (m (c.tc.loc Cert.KernelIdeal.main_arg2)) (m (c.tc.loc Cert.KernelIdeal.main_arg3)),
    fun c => Cert.ReferenceIdeal.Value.G6 (F := Ideal) (m (c.tc.loc Cert.KernelIdeal.main_arg0)) (m (c.tc.loc Cert.KernelIdeal.main_arg1)) (m (c.tc.loc Cert.KernelIdeal.main_arg2)) (m (c.tc.loc Cert.KernelIdeal.main_arg3)), ?_, ?_⟩
  · refine (θ_run _ _ _).mono (fun r h c => ?_)
      (θ_run_and (run m g) (Cert.KernelIdeal.Gen.frame_of m g (dats m) (A_eq m) (run m g)))
    exact ⟨((h.1 c).1 4).trans ((arr4 m c).trans (result4 _ _ _ _)), ((h.1 c).1 5).trans ((arr5 m c).trans (result5 _ _ _ _)),
      ((h.1 c).1 6).trans ((arr6 m c).trans (result6 _ _ _ _)), h.2 c⟩
  · refine (θ_run _ _ _).mono (fun r h c => ?_) (Cert.ReferenceIdeal.Value.run (F := Ideal) m' g')
    obtain ⟨e0, e1, e2, e3⟩ := hm c
    have := h c
    rw [e0, e1, e2, e3] at this
    rw [e0, e1, e2, e3]
    exact this

end Cert.Proof

end
-- ==== Proof.KRuns.lean ====
/- The bit-level kernel, up to its body: @main up to the one grid region, the arrays' contents there, each window's
   block at a point, the branch condition, and the frame claim's conclusion from a run of the grid. The text follows
   the generated frame of the same program. -/
module

public import proofs.«01_k».proof.Proof.Gen.Kernel.Launch
public import proofs.«01_k».proof.Proof.Gen.Kernel.Skeleton
public import proofs.«01_k».proof.Proof.Gen.Kernel.Points
public import Idealize.ShloMosaic.Lib.Pipeline.FrameBody
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.Kernel.Own

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## @main up to the region -/

/-- Core `c`'s TensorCore buffers when the region is entered: as launched (@main is the region alone). -/
abbrev V (c : Dev nD) (b : Ref sig .tc) : Buf (Elt F) ((c : Thread nD τ).loc b) := m ((c : Thread nD τ).loc b)

set_option maxHeartbeats 800000 in
/-- @main up to the region, at the certificate's variants `𝒱₀`: the region alone (`Pipeline.hmain_region` off
    `main_chain`). -/
theorem hmain (𝒱₀ : Variants) : Pipeline.HMain (Ix := Unit) (Name := ℕ) (U := UR sig nD τ) (Lvl := ℕ) cfgs 0 defs₀ 𝒱₀ m (main (F := F)) (V m) :=
  Pipeline.hmain_region cfgs 0 defs₀ 𝒱₀ m main fun c => (main_chain c).trans rfl

theorem V_main_arg0 (c : Dev nD) : V m c main_arg0 = m ((c : Thread nD τ).loc main_arg0) := rfl
theorem V_main_arg1 (c : Dev nD) : V m c main_arg1 = m ((c : Thread nD τ).loc main_arg1) := rfl
theorem V_main_arg2 (c : Dev nD) : V m c main_arg2 = m ((c : Thread nD τ).loc main_arg2) := rfl
theorem V_main_arg3 (c : Dev nD) : V m c main_arg3 = m ((c : Thread nD τ).loc main_arg3) := rfl

/-! ## The windows' blocks -/

/-- Window `w`'s block at point `t`, read off its array as the region finds it (`V`). -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- THE FRAME from a frame run: for any proof data whose arrays are the region-entry contents (`hA`), a run to
    Lib/Pipeline/Frame.lean's `RDat.FramePost` read at the argument arrays — a staged input by the library's
    `RDat.FramePost.arr_in`, an array no window stages by the post's second clause, each then by `V_…` — is the frame
    claim's post (`Cert.frame_Kernel`, Defs.lean, at any `F`). -/
theorem frame_of (rdat : (c : Dev nD) → Pipeline.RDat τ (Elt F) Unit ℕ (UR sig nD τ) ℕ (cfgs 0) c)
    (hA : ∀ c w, (rdat c).A w = V m c (Pipeline.arrRef spec0 w))
    (h : θ_run defs (onTc (τ := τ) (main (F := F))) (s₀ m ρ) (Pipeline.RDat.FramePost (cfgs 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨(Pipeline.RDat.FramePost.arr_in h c 2 rfl).trans ((hA c 2).trans (V_main_arg0 m c)),
      (Pipeline.RDat.FramePost.arr_in h c 0 rfl).trans ((hA c 0).trans (V_main_arg1 m c)),
      (Pipeline.RDat.FramePost.arr_in h c 3 rfl).trans ((hA c 3).trans (V_main_arg2 m c)),
      (Pipeline.RDat.FramePost.arr_in h c 1 rfl).trans ((hA c 1).trans (V_main_arg3 m c))⟩) h

/-! ## The body's branch conditions -/

/-- The condition of the body's `scf.if` 0 (`k0_h1`), from the grid coordinates (the skeleton's scalar
    chain substituted). -/
abbrev cond0_0 (i : grid0.Coords) : Prop := k0_cond1 i = 1#1
/-- It holds at the last point only — by arithmetic of the point. -/
theorem hcond0_0 : ∀ t : Fin cfg0.N, cond0_0 (grid0.coords t) ↔ t.val % 16 = 15 :=
  (fun t => by
    have ht : t.val < 16 := Nat.lt_of_lt_of_eq t.isLt N_0
    have e0 : (grid0.coords t 0).val = t.val / 1 % 16 := Pipeline.Grid.coords_val t 0 (by decide) rfl
    simp only [cond0_0, k0_cond1, e0]
    word_cmp
   : ∀ t : Fin grid0.N, cond0_0 (grid0.coords t) ↔ t.val % 16 = 15)

/-! ## Where the windows are idle (the printed configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-- Window 3 is never idle (an input). -/
theorem liveAt0_3 : ∀ t : Fin cfg0.N, cfg0.idle 3 (grid0.coords t) = false := fun _ => rfl
/-! ## The kernel body on any staging memrefs: a subtype the run finds -/

/-- Each window's current staging memref at point `t`, spelled as the pipeline passes it (`bodyAt0`), and its wholeness. -/
abbrev ms0_0 (t : Fin cfg0.N) : Memref sig .tc .vmem S16x1200 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S16x1344 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x1200x256 .fp8e4m3 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x1344x256 .fp8e4m3 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x1200x1344 .bf16 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S16x1200 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S16x1344 .f32 := win0_6.stage (cfg0.slots t 6)
abbrev hs0_6 (t : Fin cfg0.N) : (ms0_6 t).IsWhole := hstage0_6 ((cfg0.slots t 6).cast nbuf0_6)
/-- The scratch operands: whole scoped buffers of the kernel's own, passed beside the windows. -/
abbrev scM0_0 : Memref sig .tc .vmem S1200x1408 .f32 := Memref.whole cc0_scratch0
abbrev scM0_1 : Memref sig .tc .vmem S1200x128 .f32 := Memref.whole cc0_scratch1
abbrev scM0_2 : Memref sig .tc .vmem S1200x128 .f32 := Memref.whole cc0_scratch2
abbrev scM0_3 : Memref sig .tc .vmem S16x1x1200 .f32 := Memref.whole cc0_scratch3
abbrev scM0_4 : Memref sig .tc .vmem S16x1x1344 .f32 := Memref.whole cc0_scratch4

/-- The frame kit's invariant with the scratch operands as memrefs owned at some contents (`scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d)) ∗ (∃ r, prngReg c r)) := by
  unfold Pipeline.ΦA; rw [scopedRest0_eq]; simp only [scM0_0, scM0_1, scM0_2, scM0_3, scM0_4, owns_whole]; try rfl

end Cert.Kernel.Own

end
-- ==== Proof.KRunA.lean ====
/- The bit-level kernel's body at the points where the branch is not taken: it runs to the end, whatever the outputs
   and the scratch hold. The text follows the generated frame of the same program. -/
module

public import proofs.«01_k».proof.Proof.KRuns

@[expose] public section

-- membership in a rectangle of production extents (`View.cover_of_tiled`): the elaborator's structural look
-- recurses once per coordinate of the long axes
set_option maxRecDepth 16384

noncomputable section

namespace Cert.Kernel.Own

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: checking it walks past the default budget)
set_option maxHeartbeats 7608000 in
/-- The body's triple IN CASE A (`scf.if` 0 not taken: points 0, 1, … 14: 15 of 16): on whole staging memrefs — the inputs' at their contents,
    the FORGOTTEN outputs' (4, 5, 6) at anything, handed back at some contents nothing names —
    the body runs to the continuation holding the inputs' as they were, the scratch at some contents: the printed functions are their skeletons (`*_eq_skeleton`),
    which `sl_exec` runs (Lib/Exec.lean) — each `scf.if` decided by the case's hypotheses `hc·`. -/
theorem kernelRun0_A (c : Dev nD) (i : grid0.Coords) (arg1 : Memref sig .tc .vmem S16x1200 .f32) (harg1 : arg1.IsWhole) (arg2 : Memref sig .tc .vmem S16x1344 .f32) (harg2 : arg2.IsWhole) (arg3 : Memref sig .tc .vmem S1x1200x256 .fp8e4m3) (harg3 : arg3.IsWhole) (arg4 : Memref sig .tc .vmem S1x1344x256 .fp8e4m3) (harg4 : arg4.IsWhole) (arg5 : Memref sig .tc .vmem S1x1200x1344 .bf16) (harg5 : arg5.IsWhole) (arg6 : Memref sig .tc .vmem S16x1200 .f32) (harg6 : arg6.IsWhole) (arg7 : Memref sig .tc .vmem S16x1344 .f32) (harg7 : arg7.IsWhole) (arg8 : Memref sig .tc .vmem S1200x1408 .f32) (harg8 : arg8.IsWhole) (arg9 : Memref sig .tc .vmem S1200x128 .f32) (harg9 : arg9.IsWhole) (arg10 : Memref sig .tc .vmem S1200x128 .f32) (harg10 : arg10.IsWhole) (arg11 : Memref sig .tc .vmem S16x1x1200 .f32) (harg11 : arg11.IsWhole) (arg12 : Memref sig .tc .vmem S16x1x1344 .f32) (harg12 : arg12.IsWhole) (hc0 : ¬cond0_0 i)
    (x0 : Vec F S16x1200 .f32) (x1 : Vec F S16x1344 .f32) (x2 : Vec F S1x1200x256 .fp8e4m3) (x3 : Vec F S1x1344x256 .fp8e4m3) :
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d)) -∗ K ⟨⟩))
          ⊢ wp frame (wpE (defs₀ (F := F)) Variants.none c none) E (cc0__body i arg1 harg1 arg2 harg2 arg3 harg3 arg4 harg4 arg5 harg5 arg6 harg6 arg7 harg7 arg8 harg8 arg9 harg9 arg10 harg10 arg11 harg11 arg12 harg12) K := by
    intro E K
    simp only [cc0__body_eq_skeleton]; unfold cc0__body_skel
    simp only [k0_part256_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part257_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton, k0_part82_eq_skeleton, k0_part83_eq_skeleton, k0_part84_eq_skeleton, k0_part85_eq_skeleton, k0_part86_eq_skeleton, k0_part87_eq_skeleton, k0_part88_eq_skeleton, k0_part89_eq_skeleton, k0_part90_eq_skeleton, k0_part91_eq_skeleton, k0_part92_eq_skeleton, k0_part93_eq_skeleton, k0_part94_eq_skeleton, k0_part95_eq_skeleton, k0_part96_eq_skeleton, k0_part97_eq_skeleton, k0_part98_eq_skeleton, k0_part99_eq_skeleton, k0_part100_eq_skeleton, k0_part101_eq_skeleton, k0_part102_eq_skeleton, k0_part103_eq_skeleton, k0_part104_eq_skeleton, k0_part105_eq_skeleton, k0_part106_eq_skeleton, k0_part107_eq_skeleton, k0_part108_eq_skeleton, k0_part109_eq_skeleton, k0_part110_eq_skeleton, k0_part111_eq_skeleton, k0_part112_eq_skeleton, k0_part113_eq_skeleton, k0_part114_eq_skeleton, k0_part115_eq_skeleton, k0_part116_eq_skeleton, k0_part117_eq_skeleton, k0_part118_eq_skeleton, k0_part119_eq_skeleton, k0_part120_eq_skeleton, k0_part121_eq_skeleton, k0_part122_eq_skeleton, k0_part123_eq_skeleton, k0_part124_eq_skeleton, k0_part258_eq_skeleton, k0_part125_eq_skeleton, k0_part126_eq_skeleton, k0_part127_eq_skeleton, k0_part128_eq_skeleton, k0_part129_eq_skeleton, k0_part130_eq_skeleton, k0_part131_eq_skeleton, k0_part132_eq_skeleton, k0_part133_eq_skeleton, k0_part134_eq_skeleton, k0_part135_eq_skeleton, k0_part136_eq_skeleton, k0_part137_eq_skeleton, k0_part138_eq_skeleton, k0_part139_eq_skeleton, k0_part140_eq_skeleton, k0_part141_eq_skeleton, k0_part142_eq_skeleton, k0_part143_eq_skeleton, k0_part144_eq_skeleton, k0_part145_eq_skeleton, k0_part146_eq_skeleton, k0_part147_eq_skeleton, k0_part148_eq_skeleton, k0_part149_eq_skeleton, k0_part150_eq_skeleton, k0_part151_eq_skeleton, k0_part152_eq_skeleton, k0_part153_eq_skeleton, k0_part154_eq_skeleton, k0_part155_eq_skeleton, k0_part156_eq_skeleton, k0_part157_eq_skeleton, k0_part158_eq_skeleton, k0_part159_eq_skeleton, k0_part160_eq_skeleton, k0_part161_eq_skeleton, k0_part162_eq_skeleton, k0_part163_eq_skeleton, k0_part164_eq_skeleton, k0_part165_eq_skeleton, k0_part166_eq_skeleton, k0_part167_eq_skeleton, k0_part168_eq_skeleton, k0_part169_eq_skeleton, k0_part170_eq_skeleton, k0_part171_eq_skeleton, k0_part172_eq_skeleton, k0_part173_eq_skeleton, k0_part174_eq_skeleton, k0_part175_eq_skeleton, k0_part176_eq_skeleton, k0_part177_eq_skeleton, k0_part178_eq_skeleton, k0_part179_eq_skeleton, k0_part180_eq_skeleton, k0_part181_eq_skeleton, k0_part182_eq_skeleton, k0_part183_eq_skeleton, k0_part184_eq_skeleton, k0_part259_eq_skeleton, k0_part185_eq_skeleton, k0_part186_eq_skeleton, k0_part187_eq_skeleton, k0_part188_eq_skeleton, k0_part189_eq_skeleton, k0_part190_eq_skeleton, k0_part191_eq_skeleton, k0_part192_eq_skeleton, k0_part193_eq_skeleton, k0_part194_eq_skeleton, k0_part195_eq_skeleton, k0_part196_eq_skeleton, k0_part197_eq_skeleton, k0_part198_eq_skeleton, k0_part199_eq_skeleton, k0_part200_eq_skeleton, k0_part201_eq_skeleton, k0_part202_eq_skeleton, k0_part203_eq_skeleton, k0_part204_eq_skeleton, k0_part205_eq_skeleton, k0_part206_eq_skeleton, k0_part207_eq_skeleton, k0_part208_eq_skeleton, k0_part209_eq_skeleton, k0_part210_eq_skeleton, k0_part211_eq_skeleton, k0_part212_eq_skeleton, k0_part213_eq_skeleton, k0_part214_eq_skeleton, k0_part215_eq_skeleton, k0_part216_eq_skeleton, k0_part217_eq_skeleton, k0_part218_eq_skeleton, k0_part219_eq_skeleton, k0_part220_eq_skeleton, k0_part221_eq_skeleton, k0_part222_eq_skeleton, k0_part223_eq_skeleton, k0_part224_eq_skeleton, k0_part225_eq_skeleton, k0_part226_eq_skeleton, k0_part227_eq_skeleton, k0_part228_eq_skeleton, k0_part229_eq_skeleton, k0_part230_eq_skeleton, k0_part231_eq_skeleton, k0_part232_eq_skeleton, k0_part233_eq_skeleton, k0_part234_eq_skeleton, k0_part235_eq_skeleton, k0_part236_eq_skeleton, k0_part237_eq_skeleton, k0_part238_eq_skeleton, k0_part239_eq_skeleton, k0_part240_eq_skeleton, k0_part241_eq_skeleton, k0_part242_eq_skeleton, k0_part243_eq_skeleton, k0_part244_eq_skeleton, k0_part260_eq_skeleton, k0_part245_eq_skeleton, k0_part246_eq_skeleton, k0_part247_eq_skeleton, k0_part248_eq_skeleton, k0_part249_eq_skeleton, k0_part250_eq_skeleton, k0_part251_eq_skeleton, k0_part252_eq_skeleton, k0_part253_eq_skeleton, k0_part254_eq_skeleton, k0_part255_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, ⟨%ds0, %fs0, -, HS0⟩, ⟨%ds1, %fs1, -, HS1⟩, ⟨%ds2, %fs2, -, HS2⟩, ⟨%ds3, %fs3, -, HS3⟩, ⟨%ds4, %fs4, -, HS4⟩, Hk⟩
    obtain rfl := harg1.eq_unread hf0; obtain rfl := harg2.eq_unread hf1; obtain rfl := harg3.eq_unread hf2; obtain rfl := harg4.eq_unread hf3
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _, _; isplitr; swap; · iexact H4
      ipureintro; rfl
    isplitl [H5]
    · iexists _, _; isplitr; swap; · iexact H5
      ipureintro; rfl
    isplitl [H6]
    · iexists _, _; isplitr; swap; · iexact H6
      ipureintro; rfl
    isplitl [HS0]
    · iexists _, _; isplitr; swap; · iexact HS0
      ipureintro; rfl
    isplitl [HS1]
    · iexists _, _; isplitr; swap; · iexact HS1
      ipureintro; rfl
    isplitl [HS2]
    · iexists _, _; isplitr; swap; · iexact HS2
      ipureintro; rfl
    isplitl [HS3]
    · iexists _, _; isplitr; swap; · iexact HS3
      ipureintro; rfl
    iexists _, _; isplitr; swap; · iexact HS4
    ipureintro; rfl

end Cert.Kernel.Own

end
-- ==== Proof.KRunB.lean ====
/- The bit-level kernel's body at the point where the branch is taken: it runs to the end, whatever the outputs
   and the scratch hold. The text follows the generated frame of the same program. -/
module

public import proofs.«01_k».proof.Proof.KRunA

@[expose] public section

-- membership in a rectangle of production extents (`View.cover_of_tiled`): the elaborator's structural look
-- recurses once per coordinate of the long axes
set_option maxRecDepth 16384

noncomputable section

namespace Cert.Kernel.Own

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: checking it walks past the default budget)
set_option maxHeartbeats 8024000 in
/-- The body's triple IN CASE B (`scf.if` 0 taken: points 15): on whole staging memrefs — the inputs' at their contents,
    the FORGOTTEN outputs' (4, 5, 6) at anything, handed back at some contents nothing names —
    the body runs to the continuation holding the inputs' as they were, the scratch at some contents: the printed functions are their skeletons (`*_eq_skeleton`),
    which `sl_exec` runs (Lib/Exec.lean) — each `scf.if` decided by the case's hypotheses `hc·`. -/
theorem kernelRun0_B (c : Dev nD) (i : grid0.Coords) (arg1 : Memref sig .tc .vmem S16x1200 .f32) (harg1 : arg1.IsWhole) (arg2 : Memref sig .tc .vmem S16x1344 .f32) (harg2 : arg2.IsWhole) (arg3 : Memref sig .tc .vmem S1x1200x256 .fp8e4m3) (harg3 : arg3.IsWhole) (arg4 : Memref sig .tc .vmem S1x1344x256 .fp8e4m3) (harg4 : arg4.IsWhole) (arg5 : Memref sig .tc .vmem S1x1200x1344 .bf16) (harg5 : arg5.IsWhole) (arg6 : Memref sig .tc .vmem S16x1200 .f32) (harg6 : arg6.IsWhole) (arg7 : Memref sig .tc .vmem S16x1344 .f32) (harg7 : arg7.IsWhole) (arg8 : Memref sig .tc .vmem S1200x1408 .f32) (harg8 : arg8.IsWhole) (arg9 : Memref sig .tc .vmem S1200x128 .f32) (harg9 : arg9.IsWhole) (arg10 : Memref sig .tc .vmem S1200x128 .f32) (harg10 : arg10.IsWhole) (arg11 : Memref sig .tc .vmem S16x1x1200 .f32) (harg11 : arg11.IsWhole) (arg12 : Memref sig .tc .vmem S16x1x1344 .f32) (harg12 : arg12.IsWhole) (hc0 : cond0_0 i)
    (x0 : Vec F S16x1200 .f32) (x1 : Vec F S16x1344 .f32) (x2 : Vec F S1x1200x256 .fp8e4m3) (x3 : Vec F S1x1344x256 .fp8e4m3) :
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d)) -∗ K ⟨⟩))
          ⊢ wp frame (wpE (defs₀ (F := F)) Variants.none c none) E (cc0__body i arg1 harg1 arg2 harg2 arg3 harg3 arg4 harg4 arg5 harg5 arg6 harg6 arg7 harg7 arg8 harg8 arg9 harg9 arg10 harg10 arg11 harg11 arg12 harg12) K := by
    intro E K
    simp only [cc0__body_eq_skeleton]; unfold cc0__body_skel
    simp only [k0_part256_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part257_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton, k0_part82_eq_skeleton, k0_part83_eq_skeleton, k0_part84_eq_skeleton, k0_part85_eq_skeleton, k0_part86_eq_skeleton, k0_part87_eq_skeleton, k0_part88_eq_skeleton, k0_part89_eq_skeleton, k0_part90_eq_skeleton, k0_part91_eq_skeleton, k0_part92_eq_skeleton, k0_part93_eq_skeleton, k0_part94_eq_skeleton, k0_part95_eq_skeleton, k0_part96_eq_skeleton, k0_part97_eq_skeleton, k0_part98_eq_skeleton, k0_part99_eq_skeleton, k0_part100_eq_skeleton, k0_part101_eq_skeleton, k0_part102_eq_skeleton, k0_part103_eq_skeleton, k0_part104_eq_skeleton, k0_part105_eq_skeleton, k0_part106_eq_skeleton, k0_part107_eq_skeleton, k0_part108_eq_skeleton, k0_part109_eq_skeleton, k0_part110_eq_skeleton, k0_part111_eq_skeleton, k0_part112_eq_skeleton, k0_part113_eq_skeleton, k0_part114_eq_skeleton, k0_part115_eq_skeleton, k0_part116_eq_skeleton, k0_part117_eq_skeleton, k0_part118_eq_skeleton, k0_part119_eq_skeleton, k0_part120_eq_skeleton, k0_part121_eq_skeleton, k0_part122_eq_skeleton, k0_part123_eq_skeleton, k0_part124_eq_skeleton, k0_part258_eq_skeleton, k0_part125_eq_skeleton, k0_part126_eq_skeleton, k0_part127_eq_skeleton, k0_part128_eq_skeleton, k0_part129_eq_skeleton, k0_part130_eq_skeleton, k0_part131_eq_skeleton, k0_part132_eq_skeleton, k0_part133_eq_skeleton, k0_part134_eq_skeleton, k0_part135_eq_skeleton, k0_part136_eq_skeleton, k0_part137_eq_skeleton, k0_part138_eq_skeleton, k0_part139_eq_skeleton, k0_part140_eq_skeleton, k0_part141_eq_skeleton, k0_part142_eq_skeleton, k0_part143_eq_skeleton, k0_part144_eq_skeleton, k0_part145_eq_skeleton, k0_part146_eq_skeleton, k0_part147_eq_skeleton, k0_part148_eq_skeleton, k0_part149_eq_skeleton, k0_part150_eq_skeleton, k0_part151_eq_skeleton, k0_part152_eq_skeleton, k0_part153_eq_skeleton, k0_part154_eq_skeleton, k0_part155_eq_skeleton, k0_part156_eq_skeleton, k0_part157_eq_skeleton, k0_part158_eq_skeleton, k0_part159_eq_skeleton, k0_part160_eq_skeleton, k0_part161_eq_skeleton, k0_part162_eq_skeleton, k0_part163_eq_skeleton, k0_part164_eq_skeleton, k0_part165_eq_skeleton, k0_part166_eq_skeleton, k0_part167_eq_skeleton, k0_part168_eq_skeleton, k0_part169_eq_skeleton, k0_part170_eq_skeleton, k0_part171_eq_skeleton, k0_part172_eq_skeleton, k0_part173_eq_skeleton, k0_part174_eq_skeleton, k0_part175_eq_skeleton, k0_part176_eq_skeleton, k0_part177_eq_skeleton, k0_part178_eq_skeleton, k0_part179_eq_skeleton, k0_part180_eq_skeleton, k0_part181_eq_skeleton, k0_part182_eq_skeleton, k0_part183_eq_skeleton, k0_part184_eq_skeleton, k0_part259_eq_skeleton, k0_part185_eq_skeleton, k0_part186_eq_skeleton, k0_part187_eq_skeleton, k0_part188_eq_skeleton, k0_part189_eq_skeleton, k0_part190_eq_skeleton, k0_part191_eq_skeleton, k0_part192_eq_skeleton, k0_part193_eq_skeleton, k0_part194_eq_skeleton, k0_part195_eq_skeleton, k0_part196_eq_skeleton, k0_part197_eq_skeleton, k0_part198_eq_skeleton, k0_part199_eq_skeleton, k0_part200_eq_skeleton, k0_part201_eq_skeleton, k0_part202_eq_skeleton, k0_part203_eq_skeleton, k0_part204_eq_skeleton, k0_part205_eq_skeleton, k0_part206_eq_skeleton, k0_part207_eq_skeleton, k0_part208_eq_skeleton, k0_part209_eq_skeleton, k0_part210_eq_skeleton, k0_part211_eq_skeleton, k0_part212_eq_skeleton, k0_part213_eq_skeleton, k0_part214_eq_skeleton, k0_part215_eq_skeleton, k0_part216_eq_skeleton, k0_part217_eq_skeleton, k0_part218_eq_skeleton, k0_part219_eq_skeleton, k0_part220_eq_skeleton, k0_part221_eq_skeleton, k0_part222_eq_skeleton, k0_part223_eq_skeleton, k0_part224_eq_skeleton, k0_part225_eq_skeleton, k0_part226_eq_skeleton, k0_part227_eq_skeleton, k0_part228_eq_skeleton, k0_part229_eq_skeleton, k0_part230_eq_skeleton, k0_part231_eq_skeleton, k0_part232_eq_skeleton, k0_part233_eq_skeleton, k0_part234_eq_skeleton, k0_part235_eq_skeleton, k0_part236_eq_skeleton, k0_part237_eq_skeleton, k0_part238_eq_skeleton, k0_part239_eq_skeleton, k0_part240_eq_skeleton, k0_part241_eq_skeleton, k0_part242_eq_skeleton, k0_part243_eq_skeleton, k0_part244_eq_skeleton, k0_part260_eq_skeleton, k0_part245_eq_skeleton, k0_part246_eq_skeleton, k0_part247_eq_skeleton, k0_part248_eq_skeleton, k0_part249_eq_skeleton, k0_part250_eq_skeleton, k0_part251_eq_skeleton, k0_part252_eq_skeleton, k0_part253_eq_skeleton, k0_part254_eq_skeleton, k0_part255_eq_skeleton, k0_part1_eq_skeleton, k0_part2_eq_skeleton, k0_part3_eq_skeleton, k0_part4_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, ⟨%ds0, %fs0, -, HS0⟩, ⟨%ds1, %fs1, -, HS1⟩, ⟨%ds2, %fs2, -, HS2⟩, ⟨%ds3, %fs3, -, HS3⟩, ⟨%ds4, %fs4, -, HS4⟩, Hk⟩
    obtain rfl := harg1.eq_unread hf0; obtain rfl := harg2.eq_unread hf1; obtain rfl := harg3.eq_unread hf2; obtain rfl := harg4.eq_unread hf3
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _, _; isplitr; swap; · iexact H4
      ipureintro; rfl
    isplitl [H5]
    · iexists _, _; isplitr; swap; · iexact H5
      ipureintro; rfl
    isplitl [H6]
    · iexists _, _; isplitr; swap; · iexact H6
      ipureintro; rfl
    isplitl [HS0]
    · iexists _, _; isplitr; swap; · iexact HS0
      ipureintro; rfl
    isplitl [HS1]
    · iexists _, _; isplitr; swap; · iexact HS1
      ipureintro; rfl
    isplitl [HS2]
    · iexists _, _; isplitr; swap; · iexact HS2
      ipureintro; rfl
    isplitl [HS3]
    · iexists _, _; isplitr; swap; · iexact HS3
      ipureintro; rfl
    iexists _, _; isplitr; swap; · iexact HS4
    ipureintro; rfl

end Cert.Kernel.Own

end
-- ==== Proof.KFrame.lean ====
/- The bit-level kernel's frame: the grid's proof data, with nothing said of what the outputs hold, the body at every
   point, the run, and the frame claim's conclusion. The text follows the generated frame of the same program. -/
module

public import proofs.«01_k».proof.Proof.KRunB
public import Idealize.ShloMosaic.Lib.Claim

@[expose] public section

-- membership in a rectangle of production extents (`View.cover_of_tiled`): the elaborator's structural look
-- recurses once per coordinate of the long axes
set_option maxRecDepth 16384

noncomputable section

namespace Cert.Kernel.Own

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## The pipeline's proof data -/

/-- The output windows this certificate FORGETS (4, 5, 6): nothing reads what the kernel leaves in them, so nothing
    of it is named (Lib/Pipeline/Dat.lean `Dat.toRForget`). -/
def forgets0 : Fin 7 → Bool := fun w => w.val == 4 || w.val == 5 || w.val == 6

/-- The proof data of the one pipeline on core `c`: the arrays as the region finds them (`V`); after the body at
    point `t` each input's buffer at its block and the outputs, FORGOTTEN, at `Dat.unnamed`; the invariant the class's
    (Lib/Pipeline/Frame.lean `ΦA`: the scoped rest and the generator register); nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, h⟩ => Pipeline.Dat.unnamed (cfg := cfg0) ⟨4, h⟩ t
    | ⟨5, h⟩ => Pipeline.Dat.unnamed (cfg := cfg0) ⟨5, h⟩ t
    | ⟨6, h⟩ => Pipeline.Dat.unnamed (cfg := cfg0) ⟨6, h⟩ t
  Φ _ := Pipeline.ΦA spec0 c
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare d)
    ∗ (∃ d, owns (c : Thread nD τ) (ms0_5 t) fullShare d)
    ∗ (∃ d, owns (c : Thread nD τ) (ms0_6 t) fullShare d))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (∃ d, owns (c : Thread nD τ) (ms0_4 t) fullShare d)
    ∗ (∃ d, owns (c : Thread nD τ) (ms0_5 t) fullShare d)
    ∗ (∃ d, owns (c : Thread nD τ) (ms0_6 t) fullShare d))

set_option maxHeartbeats 2400000 in
/-- The body at any point: the inputs' memrefs hold their blocks (`before0_W`); the closed forms say which case the point is in (`by_cases`), an output the case reads before covering holds what the point before left (`before0_W_κ`); so the
    run applies; the invariant hands the body its scratch buffers at some contents (and the generator register) and takes them back at some contents (`PhiA_eq`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).Φ t.succ = (dats m 0 c).Φ t.castSucc from rfl,
    show (dats m 0 c).owesAt () t.succ = (dats m 0 c).owesAt () t.castSucc from rfl]
  rw [show (dats m 0 c).Φ t.castSucc = Pipeline.ΦA spec0 c from rfl, PhiA0_eq]
  have hN : t.val < 16 := lt_of_lt_of_eq t.isLt (show cfg0.N = 16 from N_0)
  by_cases h0 : t.val % 16 = 15
  · rw [show (dats m 0 c).leavesExact 0 t = owns (c : Thread nD τ) (ms0_0 t) fullShare ((dats m 0 c).after 0 t) from by
      unfold Dat.leavesExact; rw [liveAt0_0 t], after0_0]
    rw [show (dats m 0 c).leavesExact 1 t = owns (c : Thread nD τ) (ms0_1 t) fullShare ((dats m 0 c).after 1 t) from by
      unfold Dat.leavesExact; rw [liveAt0_1 t], after0_1]
    rw [show (dats m 0 c).leavesExact 2 t = owns (c : Thread nD τ) (ms0_2 t) fullShare ((dats m 0 c).after 2 t) from by
      unfold Dat.leavesExact; rw [liveAt0_2 t], after0_2]
    rw [show (dats m 0 c).leavesExact 3 t = owns (c : Thread nD τ) (ms0_3 t) fullShare ((dats m 0 c).after 3 t) from by
      unfold Dat.leavesExact; rw [liveAt0_3 t], after0_3]
    iintro ⟨⟨⟨HS0, HS1, HS2, HS3, HS4⟩, Hg⟩, Ho, ⟨%d0, H0⟩, ⟨%d1, H1⟩, ⟨%d2, H2⟩, ⟨%d3, H3⟩, ⟨%d4, H4⟩, ⟨%d5, H5⟩, ⟨%d6, H6⟩⟩
    iapply ((kernelRun0_B c (grid0.coords t) _ _ _ _ _ _ _ _ _ _ _ _ _ _ _ _ _ _ _ _ _ _ _ _ ((hcond0_0 t).mpr h0) (iblk m c 0 t) (iblk m c 1 t) (iblk m c 2 t) (iblk m c 3 t)) Set.univ _)
    isplitl [H0]; · iexact H0
    isplitl [H1]; · iexact H1
    isplitl [H2]; · iexact H2
    isplitl [H3]; · iexact H3
    isplitl [H4]; · iexists _; iexact H4
    isplitl [H5]; · iexists _; iexact H5
    isplitl [H6]; · iexists _; iexact H6
    isplitl [HS0]; · iexact HS0
    isplitl [HS1]; · iexact HS1
    isplitl [HS2]; · iexact HS2
    isplitl [HS3]; · iexact HS3
    isplitl [HS4]; · iexact HS4
    iintro ⟨H0, H1, H2, H3, H4, H5, H6, HS0, HS1, HS2, HS3, HS4⟩
    isplitl [HS0 HS1 HS2 HS3 HS4 Hg]
    · isplitl [HS0 HS1 HS2 HS3 HS4]
      · isplitl [HS0]
        · iexact HS0
        isplitl [HS1]
        · iexact HS1
        isplitl [HS2]
        · iexact HS2
        isplitl [HS3]
        · iexact HS3
        iexact HS4
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6
  · rw [show (dats m 0 c).leavesExact 0 t = owns (c : Thread nD τ) (ms0_0 t) fullShare ((dats m 0 c).after 0 t) from by
      unfold Dat.leavesExact; rw [liveAt0_0 t], after0_0]
    rw [show (dats m 0 c).leavesExact 1 t = owns (c : Thread nD τ) (ms0_1 t) fullShare ((dats m 0 c).after 1 t) from by
      unfold Dat.leavesExact; rw [liveAt0_1 t], after0_1]
    rw [show (dats m 0 c).leavesExact 2 t = owns (c : Thread nD τ) (ms0_2 t) fullShare ((dats m 0 c).after 2 t) from by
      unfold Dat.leavesExact; rw [liveAt0_2 t], after0_2]
    rw [show (dats m 0 c).leavesExact 3 t = owns (c : Thread nD τ) (ms0_3 t) fullShare ((dats m 0 c).after 3 t) from by
      unfold Dat.leavesExact; rw [liveAt0_3 t], after0_3]
    iintro ⟨⟨⟨HS0, HS1, HS2, HS3, HS4⟩, Hg⟩, Ho, ⟨%d0, H0⟩, ⟨%d1, H1⟩, ⟨%d2, H2⟩, ⟨%d3, H3⟩, ⟨%d4, H4⟩, ⟨%d5, H5⟩, ⟨%d6, H6⟩⟩
    iapply ((kernelRun0_A c (grid0.coords t) _ _ _ _ _ _ _ _ _ _ _ _ _ _ _ _ _ _ _ _ _ _ _ _ (fun h => h0 ((hcond0_0 t).mp h)) (iblk m c 0 t) (iblk m c 1 t) (iblk m c 2 t) (iblk m c 3 t)) Set.univ _)
    isplitl [H0]; · iexact H0
    isplitl [H1]; · iexact H1
    isplitl [H2]; · iexact H2
    isplitl [H3]; · iexact H3
    isplitl [H4]; · iexists _; iexact H4
    isplitl [H5]; · iexists _; iexact H5
    isplitl [H6]; · iexists _; iexact H6
    isplitl [HS0]; · iexact HS0
    isplitl [HS1]; · iexact HS1
    isplitl [HS2]; · iexact HS2
    isplitl [HS3]; · iexact HS3
    isplitl [HS4]; · iexact HS4
    iintro ⟨H0, H1, H2, H3, H4, H5, H6, HS0, HS1, HS2, HS3, HS4⟩
    isplitl [HS0 HS1 HS2 HS3 HS4 Hg]
    · isplitl [HS0 HS1 HS2 HS3 HS4]
      · isplitl [HS0]
        · iexact HS0
        isplitl [HS1]
        · iexact HS1
        isplitl [HS2]
        · iexact HS2
        isplitl [HS3]
        · iexact HS3
        iexact HS4
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

/-! ## The run and the frame -/

-- `θ_run_frame_forget`'s implicit arguments are found by unifying its conclusion with this one, which takes unfolding plain
-- definitions in a metavariable's type
set_option backward.isDefEq.respectTransparency.types false in
/-- THE LAUNCH: `run_main`'s statement, and every semaphore counter at zero at every final state. -/
theorem run_main_quiescent : θ_run defs (onTc (τ := τ) (main (F := F))) (s₀ m ρ) (fun r => (Pipeline.RDat.FramePost (cfgs 0) (fun c => (dats m 0 c).toRForget forgets0) (V m)) r ∧ r.2.sem = fun _ => 0) :=
  Pipeline.θ_run_frame_forget (Q' := _) cfgs (dats m) (0 : Fin 1) launch0 defs₀ Variants.none forgets0 m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- At the compiled mesh, for any values, from any memory with zero counters: every weakly fair execution of @main on the
    TensorCores terminates, and every final state has every INPUT array of the pipeline unchanged, nothing stated of the
    FORGOTTEN outputs (windows 4, 5, 6) (Lib/Pipeline/Frame.lean `RDat.FramePost` over the proof data with those windows
    forgotten, Dat.lean `Dat.toRForget`), and every other unscoped buffer at its region-entry contents. -/
theorem run_main : θ_run defs (onTc (τ := τ) (main (F := F))) (s₀ m ρ) (Pipeline.RDat.FramePost (cfgs 0) (fun c => (dats m 0 c).toRForget forgets0) (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (fun c => (dats m 0 c).toRForget forgets0) (A_eq m) (run_main m ρ)

/-- THE FRAME: `Cert.quiescent_Kernel`'s statement (Defs.lean) at any `F`; Proof.lean cites it at `Bits`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (unchanged m ρ) ((θ_run defs _ _).mono (fun _ h => h.2) (run_main_quiescent m ρ))

end Cert.Kernel.Own

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.ReferenceIdeal.Value
public import proofs.«01_k».proof.Proof.Alg
public import proofs.«01_k».proof.Proof.KFrame
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts,
  fun m g _ => Cert.Kernel.Own.frame m g, fun m g _ => Cert.KernelIdeal.Own.frame m g, fun m g _ => Cert.ReferenceIdeal.Gen.frame m g,
  ⟨IdealRules.named_const.statement _ _ _ _ _ rfl, IdealRules.named_const.statement _ _ _ _ _ rfl⟩, algebraic⟩

end Cert.Proof

end
